-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S16384x1024 : Shape := ⟨2, ![16384, 1024]⟩
abbrev S128x3072 : Shape := ⟨2, ![128, 3072]⟩
abbrev S128 : Shape := ⟨1, ![128]⟩
abbrev S128x1024 : Shape := ⟨2, ![128, 1024]⟩
abbrev S4096x1 : Shape := ⟨2, ![4096, 1]⟩
abbrev S1024x128 : Shape := ⟨2, ![1024, 128]⟩
abbrev S1x128 : Shape := ⟨2, ![1, 128]⟩
abbrev S16384x128 : Shape := ⟨2, ![16384, 128]⟩
abbrev S4096x128 : Shape := ⟨2, ![4096, 128]⟩
abbrev S4096 : Shape := ⟨1, ![4096]⟩
abbrev S3072x128 : Shape := ⟨2, ![3072, 128]⟩
abbrev S_ : Shape := ⟨0, ![]⟩
abbrev S32 : Shape := ⟨1, ![32]⟩
abbrev S1x32 : Shape := ⟨2, ![1, 32]⟩
abbrev S4096x32 : Shape := ⟨2, ![4096, 32]⟩
abbrev S16384 : Shape := ⟨1, ![16384]⟩
abbrev S1x16384 : Shape := ⟨2, ![1, 16384]⟩
abbrev S256x1024 : Shape := ⟨2, ![256, 1024]⟩
abbrev S256x1 : Shape := ⟨2, ![256, 1]⟩
abbrev S256x16384 : Shape := ⟨2, ![256, 16384]⟩
abbrev S256x128 : Shape := ⟨2, ![256, 128]⟩
abbrev S256 : Shape := ⟨1, ![256]⟩
abbrev S256x4096 : Shape := ⟨2, ![256, 4096]⟩
abbrev S256x32 : Shape := ⟨2, ![256, 32]⟩
abbrev S128x128 : Shape := ⟨2, ![128, 128]⟩
abbrev S1x4096 : Shape := ⟨2, ![1, 4096]⟩

abbrev nBuf : Space → Nat
  | .hbm => 94
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S16384x1024, .f32⟩
  | .hbm, ⟨4, _⟩ => ⟨S128x3072, .f32⟩
  | .hbm, ⟨5, _⟩ => ⟨S128, .f32⟩
  | .hbm, ⟨6, _⟩ => ⟨S128x1024, .f32⟩
  | .hbm, ⟨7, _⟩ => ⟨S128, .f32⟩
  | .hbm, ⟨8, _⟩ => ⟨S4096x1, .f32⟩
  | .hbm, ⟨9, _⟩ => ⟨S1024x128, .f32⟩
  | .hbm, ⟨10, _⟩ => ⟨S1x128, .f32⟩
  | .hbm, ⟨11, _⟩ => ⟨S16384x128, .bf16⟩
  | .hbm, ⟨12, _⟩ => ⟨S3072x128, .f32⟩
  | .hbm, ⟨13, _⟩ => ⟨S3072x128, .bf16⟩
  | .hbm, ⟨14, _⟩ => ⟨S1x128, .f32⟩
  | .hbm, ⟨15, _⟩ => ⟨S4096, .i32⟩
  | .hbm, ⟨16, _⟩ => ⟨S4096x1, .i32⟩
  | .hbm, ⟨17, _⟩ => ⟨S_, .i32⟩
  | .hbm, ⟨18, _⟩ => ⟨S_, .i32⟩
  | .hbm, ⟨19, _⟩ => ⟨S4096x1, .i32⟩
  | .hbm, ⟨20, _⟩ => ⟨S4096x1, .i32⟩
  | .hbm, ⟨21, _⟩ => ⟨S4096x1, .i32⟩
  | .hbm, ⟨22, _⟩ => ⟨S_, .i32⟩
  | .hbm, ⟨23, _⟩ => ⟨S4096x1, .i32⟩
  | .hbm, ⟨24, _⟩ => ⟨S4096x1, .i1⟩
  | .hbm, ⟨25, _⟩ => ⟨S4096x1, .i32⟩
  | .hbm, ⟨26, _⟩ => ⟨S4096x1, .i32⟩
  | .hbm, ⟨27, _⟩ => ⟨S_, .i32⟩
  | .hbm, ⟨28, _⟩ => ⟨S4096x1, .i32⟩
  | .hbm, ⟨29, _⟩ => ⟨S4096x1, .i1⟩
  | .hbm, ⟨30, _⟩ => ⟨S4096x1, .i1⟩
  | .hbm, ⟨31, _⟩ => ⟨S_, .i32⟩
  | .hbm, ⟨32, _⟩ => ⟨S4096x1, .i32⟩
  | .hbm, ⟨33, _⟩ => ⟨S4096x1, .i32⟩
  | .hbm, ⟨34, _⟩ => ⟨S4096x1, .i32⟩
  | .hbm, ⟨35, _⟩ => ⟨S32, .i32⟩
  | .hbm, ⟨36, _⟩ => ⟨S1x32, .i32⟩
  | .hbm, ⟨37, _⟩ => ⟨S4096x32, .i32⟩
  | .hbm, ⟨38, _⟩ => ⟨S4096x32, .i32⟩
  | .hbm, ⟨39, _⟩ => ⟨S4096x32, .i1⟩
  | .hbm, ⟨40, _⟩ => ⟨S4096x32, .bf16⟩
  | .hbm, ⟨41, _⟩ => ⟨S4096x1, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S4096x1, .i32⟩
  | .hbm, ⟨49, _⟩ => ⟨S4096x1, .i32⟩
  | .hbm, ⟨50, _⟩ => ⟨S_, .i32⟩
  | .hbm, ⟨51, _⟩ => ⟨S4096x1, .i32⟩
  | .hbm, ⟨52, _⟩ => ⟨S4096x1, .i1⟩
  | .hbm, ⟨53, _⟩ => ⟨S_, .i32⟩
  | .hbm, ⟨54, _⟩ => ⟨S4096x1, .i32⟩
  | .hbm, ⟨55, _⟩ => ⟨S4096x1, .i1⟩
  | .hbm, ⟨56, _⟩ => ⟨S_, .i32⟩
  | .hbm, ⟨57, _⟩ => ⟨S_, .i1⟩
  | .hbm, ⟨58, _⟩ => ⟨S4096x1, .i1⟩
  | .hbm, ⟨59, _⟩ => ⟨S4096x1, .i1⟩
  | .hbm, ⟨60, _⟩ => ⟨S4096x1, .i1⟩
  | .hbm, ⟨61, _⟩ => ⟨S4096x1, .i32⟩
  | .hbm, ⟨62, _⟩ => ⟨S4096x1, .i32⟩
  | .hbm, ⟨63, _⟩ => ⟨S4096x1, .i32⟩
  | .hbm, ⟨64, _⟩ => ⟨S128, .i32⟩
  | .hbm, ⟨65, _⟩ => ⟨S1x128, .i32⟩
  | .hbm, ⟨66, _⟩ => ⟨S4096x128, .i32⟩
  | .hbm, ⟨67, _⟩ => ⟨S4096x128, .i32⟩
  | .hbm, ⟨68, _⟩ => ⟨S4096x128, .i1⟩
  | .hbm, ⟨69, _⟩ => ⟨S4096x128, .bf16⟩
  | .hbm, ⟨70, _⟩ => ⟨S16384, .i32⟩
  | .hbm, ⟨71, _⟩ => ⟨S1x16384, .i32⟩
  | .hbm, ⟨72, _⟩ => ⟨S_, .i32⟩
  | .hbm, ⟨73, _⟩ => ⟨S_, .i32⟩
  | .hbm, ⟨74, _⟩ => ⟨S1x16384, .i32⟩
  | .hbm, ⟨75, _⟩ => ⟨S1x16384, .i32⟩
  | .hbm, ⟨76, _⟩ => ⟨S1x16384, .i32⟩
  | .hbm, ⟨77, _⟩ => ⟨S_, .i32⟩
  | .hbm, ⟨78, _⟩ => ⟨S1x16384, .i32⟩
  | .hbm, ⟨79, _⟩ => ⟨S1x16384, .i1⟩
  | .hbm, ⟨80, _⟩ => ⟨S1x16384, .i32⟩
  | .hbm, ⟨81, _⟩ => ⟨S1x16384, .i32⟩
  | .hbm, ⟨82, _⟩ => ⟨S_, .i32⟩
  | .hbm, ⟨83, _⟩ => ⟨S1x16384, .i32⟩
  | .hbm, ⟨84, _⟩ => ⟨S1x16384, .i1⟩
  | .hbm, ⟨85, _⟩ => ⟨S1x16384, .i1⟩
  | .hbm, ⟨86, _⟩ => ⟨S_, .i32⟩
  | .hbm, ⟨87, _⟩ => ⟨S1x16384, .i32⟩
  | .hbm, ⟨88, _⟩ => ⟨S1x16384, .i32⟩
  | .hbm, ⟨89, _⟩ => ⟨S1x16384, .i32⟩
  | .hbm, ⟨90, _⟩ => ⟨S1x16384, .bf16⟩
  | .hbm, ⟨91, _⟩ => ⟨S4096x1, .i32⟩
  | .hbm, ⟨92, _⟩ => ⟨S4096x1, .f32⟩
  | .hbm, ⟨93, _⟩ => ⟨S4096, .i32⟩
  | .local _ .vmem, ⟨0, _⟩ => ⟨S4096x1024, .f32⟩
  | .local _ .vmem, ⟨1, _⟩ => ⟨S4096x1024, .f32⟩
  | .local _ .vmem, ⟨2, _⟩ => ⟨S1024x128, .f32⟩
  | .local _ .vmem, ⟨3, _⟩ => ⟨S1x128, .f32⟩
  | .local _ .vmem, ⟨4, _⟩ => ⟨S4096x128, .bf16⟩
  | .local _ .vmem, ⟨5, _⟩ => ⟨S4096x128, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S3072x128, .bf16⟩
  | .local _ .vmem, ⟨13, _⟩ => ⟨S1x128, .f32⟩
  | .local _ .vmem, ⟨14, _⟩ => ⟨S16384x128, .bf16⟩
  | .local _ .vmem, ⟨15, _⟩ => ⟨S256x1, .f32⟩
  | .local _ .vmem, ⟨16, _⟩ => ⟨S256x1, .f32⟩
  | .local _ .vmem, ⟨17, _⟩ => ⟨S4096x32, .bf16⟩
  | .local _ .vmem, ⟨18, _⟩ => ⟨S1x16384, .bf16⟩
  | .local _ .vmem, ⟨19, _⟩ => ⟨S4096x128, .bf16⟩
  | .local _ .vmem, ⟨20, _⟩ => ⟨S256x1, .i32⟩
  | .local _ .vmem, ⟨21, _⟩ => ⟨S256x1, .i32⟩
  | .local _ .vmem, ⟨22, _⟩ => ⟨S256x1, .f32⟩
  | .local _ .vmem, ⟨23, _⟩ => ⟨S256x1, .f32⟩
  | .local _ .vmem, ⟨24, _⟩ => ⟨S256x16384, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_0 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_1 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_c : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_0 : Ref sig .tc := ⟨.hbm, 86, rfl⟩
abbrev main_call2_v12 : Ref sig .tc := ⟨.hbm, 87, rfl⟩
abbrev main_call2_v13 : Ref sig .tc := ⟨.hbm, 88, rfl⟩
abbrev main_v25 : Ref sig .tc := ⟨.hbm, 89, rfl⟩
abbrev main_v26 : Ref sig .tc := ⟨.hbm, 90, rfl⟩
abbrev main_v27_0 : Ref sig .tc := ⟨.hbm, 91, rfl⟩
abbrev main_v27_1 : Ref sig .tc := ⟨.hbm, 92, rfl⟩
abbrev main_v28 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3072x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16384x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S4096x32 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16384 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4096x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1 .i32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S4096x1024 : Shape := ⟨2, ![4096, 1024]⟩
abbrev S16384x1024 : Shape := ⟨2, ![16384, 1024]⟩
abbrev S128x3072 : Shape := ⟨2, ![128, 3072]⟩
abbrev S128 : Shape := ⟨1, ![128]⟩
abbrev S128x1024 : Shape := ⟨2, ![128, 1024]⟩
abbrev S4096x1 : Shape := ⟨2, ![4096, 1]⟩
abbrev S4096x3072 : Shape := ⟨2, ![4096, 3072]⟩
abbrev S3072x128 : Shape := ⟨2, ![3072, 128]⟩
abbrev S4096x128 : Shape := ⟨2, ![4096, 128]⟩
abbrev S1x128 : Shape := ⟨2, ![1, 128]⟩
abbrev S_ : Shape := ⟨0, ![]⟩
abbrev S4096 : Shape := ⟨1, ![4096]⟩
abbrev S1024x128 : Shape := ⟨2, ![1024, 128]⟩
abbrev S16384x128 : Shape := ⟨2, ![16384, 128]⟩
abbrev S16384 : Shape := ⟨1, ![16384]⟩
abbrev S16384x1 : Shape := ⟨2, ![16384, 1]⟩
abbrev S128x16384 : Shape := ⟨2, ![128, 16384]⟩
abbrev S4096x16384 : Shape := ⟨2, ![4096, 16384]⟩
abbrev S4096x2 : Shape := ⟨2, ![4096, 2]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S16384x1024, .f32⟩
  | .hbm, ⟨4, _⟩ => ⟨S128x3072, .f32⟩
  | .hbm, ⟨5, _⟩ => ⟨S128, .f32⟩
  | .hbm, ⟨6, _⟩ => ⟨S128x1024, .f32⟩
  | .hbm, ⟨7, _⟩ => ⟨S128, .f32⟩
  | .hbm, ⟨8, _⟩ => ⟨S4096x1, .f32⟩
  | .hbm, ⟨9, _⟩ => ⟨S4096x3072, .f32⟩
  | .hbm, ⟨10, _⟩ => ⟨S3072x128, .f32⟩
  | .hbm, ⟨11, _⟩ => ⟨S4096x128, .f32⟩
  | .hbm, ⟨12, _⟩ => ⟨S1x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x128, .f32⟩
  | .hbm, ⟨24, _⟩ => ⟨S4096x128, .f32⟩
  | .hbm, ⟨25, _⟩ => ⟨S1024x128, .f32⟩
  | .hbm, ⟨26, _⟩ => ⟨S16384x128, .f32⟩
  | .hbm, ⟨27, _⟩ => ⟨S1x128, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x128, .f32⟩
  | .hbm, ⟨39, _⟩ => ⟨S16384x128, .f32⟩
  | .hbm, ⟨40, _⟩ => ⟨S128x16384, .f32⟩
  | .hbm, ⟨41, _⟩ => ⟨S4096x16384, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1, .f32⟩
  | .hbm, ⟨48, _⟩ => ⟨S4096x16384, .f32⟩
  | .hbm, ⟨49, _⟩ => ⟨S4096x16384, .f32⟩
  | .hbm, ⟨50, _⟩ => ⟨S4096x16384, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x16384, .f32⟩
  | .hbm, ⟨55, _⟩ => ⟨S4096x16384, .f32⟩
  | .hbm, ⟨56, _⟩ => ⟨S_, .f32⟩
  | .hbm, ⟨57, _⟩ => ⟨S_, .f32⟩
  | .hbm, ⟨58, _⟩ => ⟨S4096x16384, .f32⟩
  | .hbm, ⟨59, _⟩ => ⟨S4096x16384, .f32⟩
  | .hbm, ⟨60, _⟩ => ⟨S4096x16384, .i1⟩
  | .hbm, ⟨61, _⟩ => ⟨S4096x16384, .f32⟩
  | .hbm, ⟨62, _⟩ => ⟨S4096x16384, .i32⟩
  | .hbm, ⟨63, _⟩ => ⟨S_, .f32⟩
  | .hbm, ⟨64, _⟩ => ⟨S_, .i32⟩
  | .hbm, ⟨65, _⟩ => ⟨S4096, .f32⟩
  | .hbm, ⟨66, _⟩ => ⟨S4096, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S4096, .i32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S_, .i32⟩
  | .hbm, ⟨79, _⟩ => ⟨S4096, .i32⟩
  | .hbm, ⟨80, _⟩ => ⟨S4096, .i32⟩
  | .hbm, ⟨81, _⟩ => ⟨S4096, .i32⟩
  | .hbm, ⟨82, _⟩ => ⟨S4096x1, .i32⟩
  | .hbm, ⟨83, _⟩ => ⟨S4096x1, .i32⟩
  | .hbm, ⟨84, _⟩ => ⟨S4096x2, .i32⟩
  | .hbm, ⟨85, _⟩ => ⟨S4096, .f32⟩
  | .hbm, ⟨86, _⟩ => ⟨S4096, .f32⟩
  | .hbm, ⟨87, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_call0_cst : Ref sig .tc := ⟨.hbm, 56, rfl⟩
abbrev main_call0_call0_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call1_v0 : Ref sig .tc := ⟨.hbm, 62, rfl⟩
abbrev main_call1_cst : Ref sig .tc := ⟨.hbm, 63, rfl⟩
abbrev main_call1_c : Ref sig .tc := ⟨.hbm, 64, rfl⟩
abbrev main_call1_v1_0 : Ref sig .tc := ⟨.hbm, 65, rfl⟩
abbrev main_v44 : Ref sig .tc := ⟨.hbm, 66, rfl⟩
abbrev main_v45 : Ref sig .tc := ⟨.hbm, 67, rfl⟩
abbrev main_c : Ref sig .tc := ⟨.hbm, 68, rfl⟩
abbrev main_v46 : Ref sig .tc := ⟨.hbm, 69, rfl⟩
abbrev main_v47 : Ref sig .tc := ⟨.hbm, 70, rfl⟩
abbrev main_c_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_7 : Ref sig .tc := ⟨.hbm, 75, rfl⟩
abbrev main_v51 : Ref sig .tc := ⟨.hbm, 76, rfl⟩
abbrev main_v52 : Ref sig .tc := ⟨.hbm, 77, rfl⟩
abbrev main_c_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]
-- ==== Proof.Sampling.lean ====
/-
Choosing the first position whose running sum passes a bound

Positive weights `x 0, x 1, …, x 16383` are cut into 128 chunks of 128. The kernel finds the chunk whose prefix
sums straddle the bound, picks that chunk's 128 weights out, and counts how many of their running sums stay at or
below the bound. This file shows that this finds the first position whose running sum passes the bound.
-/
module

public import Idealize.ShloMosaic.Lib.IdealHost
public import Idealize.ShloMosaic.Lib.IndicatorCount

@[expose] public section

open Finset

namespace Cert.Proof.Sampling

/-- The sum of the first `n` weights. -/
noncomputable def P (x : ℕ → ℝ) (n : ℕ) : ℝ := ∑ i ∈ range n, x i

theorem P_succ (x : ℕ → ℝ) (n : ℕ) : P x (n + 1) = P x n + x n := sum_range_succ x n

theorem P_zero (x : ℕ → ℝ) : P x 0 = 0 := sum_range_zero x

/-- Prefix sums of positive weights increase strictly. -/
theorem P_strictMono {x : ℕ → ℝ} (hx : ∀ i, 0 < x i) : StrictMono (P x) :=
  strictMono_nat_of_lt_succ fun n => by rw [P_succ]; linarith [hx n]

/-- The prefix sum at `a + n` is the one at `a` and the next `n` weights. -/
theorem P_add (x : ℕ → ℝ) (a n : ℕ) : P x (a + n) = P x a + ∑ l ∈ range n, x (a + l) := sum_range_add x a n

open Classical in
/-- The first position among 16384 whose running sum passes `t`, and 0 if none does. -/
noncomputable def pick (x : ℕ → ℝ) (t : EReal) : ℕ :=
  if h : ∃ j, j < 16384 ∧ t < (P x (j + 1) : EReal) then Nat.find h else 0

/-- A position whose running sum passes `t` while the sum before it does not is the one picked. -/
theorem pick_eq {x : ℕ → ℝ} (hx : ∀ i, 0 < x i) {t : EReal} {n : ℕ} (hn : n < 16384) (h1 : t < (P x (n + 1) : EReal))
    (h0 : n = 0 ∨ (P x n : EReal) ≤ t) : pick x t = n := by
  classical
  have h : ∃ j, j < 16384 ∧ t < (P x (j + 1) : EReal) := ⟨n, hn, h1⟩
  rw [pick, dif_pos h, Nat.find_eq_iff]
  refine ⟨⟨hn, h1⟩, fun j hj hh => ?_⟩
  rcases h0 with h0 | h0
  · omega
  · have : (P x (j + 1) : EReal) ≤ P x n := EReal.coe_le_coe_iff.2 ((P_strictMono hx).monotone (by omega))
    exact absurd (lt_of_lt_of_le hh.2 (this.trans h0)) (lt_irrefl _)

/-- With no running sum past `t` the position picked is 0. -/
theorem pick_none {x : ℕ → ℝ} (hx : ∀ i, 0 < x i) {t : EReal} (h : (P x 16384 : EReal) ≤ t) : pick x t = 0 := by
  classical
  rw [pick, dif_neg]
  rintro ⟨j, hj, hh⟩
  have : (P x (j + 1) : EReal) ≤ P x 16384 := EReal.coe_le_coe_iff.2 ((P_strictMono hx).monotone (by omega))
  exact absurd (lt_of_lt_of_le hh (this.trans h)) (lt_irrefl _)

theorem pick_lt (x : ℕ → ℝ) (t : EReal) : pick x t < 16384 := by
  classical
  rw [pick]
  split
  · next h => exact (Nat.find_spec h).1
  · norm_num

/-! ## Sums of extended reals that are real -/

/-- A finite sum of reals, taken among the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [sum_insert ha, sum_insert ha, ih, EReal.coe_add]

/-- The sum of a 4096-long block's entries that lie in chunk `c` of the block. -/
theorem sum_chunk (f : ℕ → ℝ) {c : ℕ} (hc : c < 32) :
    (∑ j : Fin 4096, (f j : EReal) * (if j.val / 128 = c then 1 else 0)) = ((∑ l ∈ range 128, f (128 * c + l) : ℝ) : EReal) := by
  have e : ∀ j : Fin 4096, (f j : EReal) * (if j.val / 128 = c then 1 else 0) = ((if j.val / 128 = c then f j else 0 : ℝ) : EReal) := by
    intro j; split <;> simp
  simp only [e]
  rw [coe_sum, Fin.sum_univ_eq_sum_range (fun j => if j / 128 = c then f j else 0) 4096, ← sum_filter]
  congr 1
  refine sum_nbij' (fun j => j - 128 * c) (fun l => 128 * c + l) ?_ ?_ ?_ ?_ ?_
  · intro j hj; simp only [mem_filter, mem_range] at hj ⊢; omega
  · intro l hl; simp only [mem_filter, mem_range] at hl ⊢; omega
  · intro j hj; simp only [mem_filter, mem_range] at hj; omega
  · intro l hl; omega
  · intro j hj; simp only [mem_filter, mem_range] at hj; congr 1; omega

/-- Multiplying by the triangle of ones makes running sums. -/
theorem sum_upTo (f : ℕ → ℝ) {c : ℕ} (hc : c < 128) :
    (∑ k : Fin 128, (f k : EReal) * (if k.val ≤ c then 1 else 0)) = ((∑ l ∈ range (c + 1), f l : ℝ) : EReal) := by
  have e : ∀ j : Fin 128, (f j : EReal) * (if j.val ≤ c then 1 else 0) = ((if j.val ≤ c then f j else 0 : ℝ) : EReal) := by
    intro j; split <;> simp
  simp only [e]
  rw [coe_sum, Fin.sum_univ_eq_sum_range (fun j => if j ≤ c then f j else 0) 128, ← sum_filter]
  congr 1
  refine sum_congr ?_ fun _ _ => rfl
  ext j; simp only [mem_filter, mem_range]; omega

/-- Of block `b`, keeping the weights of chunk `C` and folding by the position in the chunk gives the chunk's weight at
lane `l` if the chunk lies in the block, and 0 otherwise. -/
theorem sum_fold (x : ℕ → ℝ) (b C l : ℕ) (hl : l < 128) :
    (∑ j : Fin 4096, (if (4096 * b + j.val) / 128 = C then (x (4096 * b + j) : EReal) else 0) * (if j.val % 128 = l then 1 else 0))
      = if C / 32 = b then (x (128 * C + l) : EReal) else 0 := by
  by_cases hb : C / 32 = b
  · rw [if_pos hb, sum_eq_single (⟨128 * (C % 32) + l, by omega⟩ : Fin 4096)]
    · have h1 : (4096 * b + (128 * (C % 32) + l)) / 128 = C := by omega
      have h2 : (128 * (C % 32) + l) % 128 = l := by omega
      have h3 : 4096 * b + (128 * (C % 32) + l) = 128 * C + l := by omega
      simp only [h1, h2, if_true, mul_one]
      rw [h3]
    · intro j _ hj
      by_cases h1 : (4096 * b + j.val) / 128 = C
      · by_cases h2 : j.val % 128 = l
        · exact absurd (Fin.ext (by show j.val = 128 * (C % 32) + l; omega)) hj
        · rw [if_neg h2, mul_zero]
      · rw [if_neg h1, zero_mul]
    · intro h; exact absurd (mem_univ _) h
  · rw [if_neg hb]
    refine sum_eq_zero fun j _ => ?_
    have := j.isLt
    rw [if_neg (by omega), zero_mul]

/-- The weights of chunk `C` gathered from the four blocks. -/
theorem sum_folds (x : ℕ → ℝ) (C l : ℕ) (hl : l < 128) (hC : C < 128) :
    ((((0 : EReal) + (if C / 32 = 0 then (x (128 * C + l) : EReal) else 0)) + (if C / 32 = 1 then (x (128 * C + l) : EReal) else 0))
      + (if C / 32 = 2 then (x (128 * C + l) : EReal) else 0)) + (if C / 32 = 3 then (x (128 * C + l) : EReal) else 0)
      = (x (128 * C + l) : EReal) := by
  have : C / 32 = 0 ∨ C / 32 = 1 ∨ C / 32 = 2 ∨ C / 32 = 3 := by omega
  rcases this with h | h | h | h <;> simp [h]

open Idealize.ShloMosaic in
/-- Words that are zero but where `p` holds, which is at `a` alone, sum to the word at `a`. -/
theorem fold_words_single {n : ℕ} (p : Fin n → Prop) [DecidablePred p] (a : Fin n) (ha : ∀ k, p k ↔ k = a)
    (w : Fin n → BitVec 32) : univ.fold IntOp.addi 0#32 (fun k => if p k then w k else 0#32) = w a := by
  classical
  have h0 : ∀ S : Finset (Fin n), a ∉ S → S.fold IntOp.addi 0#32 (fun k => if p k then w k else 0#32) = 0#32 := by
    intro S
    induction S using Finset.induction_on with
    | empty => intro _; rfl
    | insert b S hb ih =>
      intro hab
      rw [fold_insert hb, ih fun h => hab (mem_insert_of_mem h), if_neg fun h => hab ((ha b).1 h ▸ mem_insert_self _ _)]
      rfl
  rw [← insert_erase (mem_univ a), fold_insert (notMem_erase a _), h0 _ (notMem_erase a _), if_pos ((ha a).2 rfl)]
  exact BitVec.add_zero _

open Idealize.ShloMosaic in
/-- Words that are zero throughout sum to zero. -/
theorem fold_words_none {n : ℕ} (p : Fin n → Prop) [DecidablePred p] (ha : ∀ k, ¬ p k)
    (w : Fin n → BitVec 32) : univ.fold IntOp.addi 0#32 (fun k => if p k then w k else 0#32) = 0#32 := by
  classical
  have h0 : ∀ S : Finset (Fin n), S.fold IntOp.addi 0#32 (fun k => if p k then w k else 0#32) = 0#32 := by
    intro S
    induction S using Finset.induction_on with
    | empty => rfl
    | insert b S hb ih => rw [fold_insert hb, ih, if_neg (ha b)]; rfl
  exact h0 _

/-! ## The three ways a bound can lie -/

/-- Chunk `c` straddles the bound `t`. -/
def Cross (x : ℕ → ℝ) (t : EReal) (c : ℕ) : Prop := (P x (128 * c) : EReal) ≤ t ∧ t < (P x (128 * c + 128) : EReal)

/-- Two chunks that straddle one bound are the same chunk. -/
theorem Cross.unique {x : ℕ → ℝ} (hx : ∀ i, 0 < x i) {t : EReal} {c d : ℕ} (hc : Cross x t c) (hd : Cross x t d) : c = d := by
  have key : ∀ {c d : ℕ}, Cross x t c → Cross x t d → ¬ c < d := by
    intro c d hc hd h
    have : (P x (128 * c + 128) : EReal) ≤ P x (128 * d) := EReal.coe_le_coe_iff.2 ((P_strictMono hx).monotone (by omega))
    exact absurd (lt_of_lt_of_le hc.2 (this.trans hd.1)) (lt_irrefl _)
  have h1 := key hc hd
  have h2 := key hd hc
  omega

/-- A bound lies below 0, in one chunk, or at or past the total. -/
theorem cases_bound (x : ℕ → ℝ) (t : EReal) :
    t < 0 ∨ (∃ c, c < 128 ∧ Cross x t c) ∨ (P x 16384 : EReal) ≤ t := by
  by_cases h0 : t < 0
  · exact .inl h0
  right
  by_cases hz : (P x 16384 : EReal) ≤ t
  · exact .inr hz
  left
  classical
  have hz' : t < (P x (128 * 127 + 128) : EReal) := not_le.1 hz
  have hex : ∃ c, t < (P x (128 * c + 128) : EReal) := ⟨127, hz'⟩
  refine ⟨Nat.find hex, lt_of_le_of_lt (Nat.find_le (n := 127) hz') (by norm_num), ?_, Nat.find_spec hex⟩
  rcases Nat.eq_zero_or_pos (Nat.find hex) with h | h
  · rw [h, Nat.mul_zero, P_zero]; exact not_lt.1 h0
  · have := Nat.find_min hex (m := Nat.find hex - 1) (by omega)
    rw [show 128 * (Nat.find hex - 1) + 128 = 128 * Nat.find hex by omega] at this
    exact not_lt.1 this

/-- The lanes of chunk `c` whose running sums stay at or below the bound are those before the position picked. -/
theorem card_below {x : ℕ → ℝ} (hx : ∀ i, 0 < x i) {t : EReal} {c : ℕ} (hc : c < 128) (h : Cross x t c) :
    ∃ n, n < 128 ∧ (univ.filter fun l : Fin 128 => (P x (128 * c + l.val + 1) : EReal) ≤ t).card = n ∧ pick x t = 128 * c + n := by
  classical
  have hex : ∃ n, t < (P x (128 * c + n + 1) : EReal) := ⟨127, h.2⟩
  have hn : Nat.find hex < 128 := lt_of_le_of_lt (Nat.find_le (n := 127) h.2) (by norm_num)
  refine ⟨Nat.find hex, hn, ?_, ?_⟩
  · have : (univ.filter fun l : Fin 128 => (P x (128 * c + l.val + 1) : EReal) ≤ t) = univ.filter fun l : Fin 128 => l.val < Nat.find hex := by
      ext l
      simp only [mem_filter, mem_univ, true_and]
      constructor
      · intro hl
        by_contra hge
        have : (P x (128 * c + Nat.find hex + 1) : EReal) ≤ P x (128 * c + l.val + 1) :=
          EReal.coe_le_coe_iff.2 ((P_strictMono hx).monotone (by omega))
        exact absurd (lt_of_lt_of_le (Nat.find_spec hex) (this.trans hl)) (lt_irrefl _)
      · intro hl
        exact not_lt.1 (Nat.find_min hex hl)
    rw [this, Fin.card_filter_val_lt]
    omega
  · refine pick_eq hx (by omega) (Nat.find_spec hex) ?_
    right
    rcases Nat.eq_zero_or_pos (Nat.find hex) with h0 | h0
    · rw [h0]; exact h.1
    · have := Nat.find_min hex (m := Nat.find hex - 1) (by omega)
      rw [show 128 * c + (Nat.find hex - 1) + 1 = 128 * c + Nat.find hex by omega] at this
      exact not_lt.1 this

end Cert.Proof.Sampling
-- ==== Proof.Spec.lean ====
/-
  What one row of either program computes, over extended reals: an embedding divided by its length, its products with the
  candidates' embeddings, the exponentials of those as weights, and the choice among the weights by a bound.
-/
module

public import proofs.«01_k».proof.Proof.Sampling
public import Idealize.ShloMosaic.PureOps.Ideal.Laws

@[expose] public section

noncomputable section

namespace Cert.Proof.Spec

open Finset Idealize.ShloMosaic
open Cert.Proof.Sampling

/-- The least length a row is divided by. -/
abbrev least : EReal := Ideal.ofBits .f32 0x2B8CBCCC#32

/-- One row's three inputs times the weights, plus the bias. -/
def joint (q t l : Fin 1024 → EReal) (w : Fin 128 → Fin 3072 → EReal) (b : Fin 128 → EReal) : Fin 128 → EReal := fun h =>
  (∑ k : Fin 1024, q k * w h ⟨k.val, by omega⟩) + (∑ k : Fin 1024, t k * w h ⟨1024 + k.val, by omega⟩)
    + (∑ k : Fin 1024, l k * w h ⟨2048 + k.val, by omega⟩) + b h

/-- One candidate's inputs times its weights, plus the bias. -/
def cand (a : Fin 1024 → EReal) (w : Fin 128 → Fin 1024 → EReal) (b : Fin 128 → EReal) : Fin 128 → EReal := fun h =>
  (∑ k : Fin 1024, a k * w h k) + b h

/-- A row divided by its length, a length below the least one replaced by it. -/
def unit (v : Fin 128 → EReal) : Fin 128 → EReal := fun h =>
  Ideal.div (v h) (max (Ideal.sqrt (∑ k, v k * v k)) least)

theorem least_pos : 0 < least := by
  have e : least = (((9223372 : ℝ) * (2 ^ 63)⁻¹ : ℝ) : EReal) := by
    simp [least, Ideal.ofBits, Ideal.ieee]
  rw [e]
  exact EReal.coe_pos.2 (by positivity)

theorem mul_self_nonneg (x : EReal) : 0 ≤ x * x := by
  induction x with
  | bot => simp
  | top => simp
  | coe r => exact_mod_cast _root_.mul_self_nonneg r

theorem real_of_mul_self {x : EReal} (h : x * x ≠ ⊤) : ∃ r : ℝ, x = r := by
  induction x with
  | bot => simp at h
  | top => simp at h
  | coe r => exact ⟨r, rfl⟩

/-- A row divided by its length is real, whatever the row: an infinite length divides to zero, and a finite length has
only real entries under it. -/
theorem unit_real (v : Fin 128 → EReal) : ∃ g : Fin 128 → ℝ, ∀ h, unit v h = g h := by
  unfold unit
  have hpos : 0 < max (Ideal.sqrt (∑ k, v k * v k)) least := lt_max_of_lt_right least_pos
  generalize hm : max (Ideal.sqrt (∑ k, v k * v k)) least = m at hpos
  induction m with
  | bot => simp at hpos
  | top =>
    refine ⟨fun _ => 0, fun h => ?_⟩
    simp [Ideal.div]
  | coe m =>
    have hs : (∑ k, v k * v k) ≠ ⊤ := by
      intro ht
      rw [ht, show Ideal.sqrt ⊤ = ⊤ from rfl, max_eq_left le_top] at hm
      exact absurd hm.symm (EReal.coe_ne_top m)
    have hv : ∀ h, ∃ r : ℝ, v h = r := by
      intro h
      refine real_of_mul_self fun ht => hs ?_
      refine top_le_iff.1 ?_
      rw [← ht]
      exact single_le_sum (f := fun k => v k * v k) (fun k _ => mul_self_nonneg (v k)) (mem_univ h)
    choose g hg using hv
    have hm0 : m ≠ 0 := by
      rintro rfl
      simp at hpos
    refine ⟨fun h => g h * (1 / m), fun h => ?_⟩
    rw [Ideal.div_coe hm0, hg, EReal.coe_mul]

/-- The product of a row with candidate `j`. -/
def logit (e : Fin 128 → EReal) (c : Fin 16384 → Fin 128 → EReal) (j : Fin 16384) : EReal := ∑ h, e h * c j h

/-- The products as a sequence of reals. -/
def score (e : Fin 128 → EReal) (c : Fin 16384 → Fin 128 → EReal) (j : ℕ) : ℝ :=
  if h : j < 16384 then (logit e c ⟨j, h⟩).toReal else 0

/-- The weights: the exponentials of the products. -/
def weight (e : Fin 128 → EReal) (c : Fin 16384 → Fin 128 → EReal) (j : ℕ) : ℝ := Real.exp (score e c j)

theorem weight_pos (e : Fin 128 → EReal) (c : Fin 16384 → Fin 128 → EReal) (j : ℕ) : 0 < weight e c j := Real.exp_pos _

/-- Products of real rows are real. -/
theorem logit_eq {e : Fin 128 → EReal} {c : Fin 16384 → Fin 128 → EReal} (he : ∃ g : Fin 128 → ℝ, ∀ h, e h = g h)
    (hc : ∀ j, ∃ g : Fin 128 → ℝ, ∀ h, c j h = g h) (j : Fin 16384) : logit e c j = (score e c j : EReal) := by
  obtain ⟨g, hg⟩ := he
  obtain ⟨d, hd⟩ := hc j
  have : logit e c j = ((∑ h, g h * d h : ℝ) : EReal) := by
    unfold logit
    rw [← coe_sum]
    exact sum_congr rfl fun h _ => by rw [hg, hd, EReal.coe_mul]
  rw [score, dif_pos j.isLt, this, EReal.toReal_coe]

theorem exp_logit {e : Fin 128 → EReal} {c : Fin 16384 → Fin 128 → EReal} (he : ∃ g : Fin 128 → ℝ, ∀ h, e h = g h)
    (hc : ∀ j, ∃ g : Fin 128 → ℝ, ∀ h, c j h = g h) (j : Fin 16384) : Ideal.exp (logit e c j) = (weight e c j : EReal) := by
  rw [logit_eq he hc, Ideal.exp_coe, weight]

/-- The position picked: the first whose running sum of weights passes `u` times the total. -/
def place (e : Fin 128 → EReal) (c : Fin 16384 → Fin 128 → EReal) (u : EReal) : ℕ :=
  pick (weight e c) (u * (P (weight e c) 16384 : EReal))

/-- The position picked, as a word. -/
def sel (e : Fin 128 → EReal) (c : Fin 16384 → Fin 128 → EReal) (u : EReal) : BitVec 32 := BitVec.ofNat 32 (place e c u)

/-- The logarithm of the share of the weight picked. -/
def logShare (e : Fin 128 → EReal) (c : Fin 16384 → Fin 128 → EReal) (u : EReal) : EReal :=
  ((Real.log (weight e c (place e c u)) - Real.log (P (weight e c) 16384) : ℝ) : EReal)

theorem total_pos (x : ℕ → ℝ) (hx : ∀ i, 0 < x i) : 0 < P x 16384 := by
  have := P_strictMono hx (show 0 < 16384 by norm_num)
  rwa [P_zero] at this

end Cert.Proof.Spec
-- ==== Proof.Region1Row.lean ====
/-
  The second kernel's arithmetic on one row: from the four blocks of weights, the tables and the bound's factor, the word
  it stores is the first position whose running sum passes the bound, and the number it stores is the logarithm of that
  weight less the logarithm of the total.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.Proof.Kern

open Finset Idealize Idealize.ShloMosaic
open Cert.KernelIdeal Cert.KernelIdeal.Gen
open Cert.Proof.Sampling

/-- A small natural's word read as a signed integer. -/
theorem toInt_small {n : ℕ} (h : n < 2147483648) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- The triangle of ones. -/
theorem tri_apply (a b : Fin 128) : (k1_pay14 : FVec Ideal S128x128 .f32) (ix2 a b) = if a.val ≤ b.val then 1 else 0 := by
  pointwise [k1_pay14]
  have hs : (BitVec.ofNat 32 a.val).sle (BitVec.ofNat 32 b.val) = decide (a.val ≤ b.val) := by
    have ha : (BitVec.ofNat 32 a.val).toInt = a.val := toInt_small (by omega)
    have hb : (BitVec.ofNat 32 b.val).toInt = b.val := toInt_small (by omega)
    rw [BitVec.sle, ha, hb]
    simp
  show ((((BitVec.setWidth 32 (BitVec.ofBool ((BitVec.ofNat 32 a.val).sle (BitVec.ofNat 32 b.val)))).toInt : ℤ) : ℝ) : EReal) = _
  rw [hs]
  by_cases h : a.val ≤ b.val <;> simp [h]

section Row

variable {x : ℕ → ℝ} (hx : ∀ i, 0 < x i) (r : Fin 256)
  {v28 : FVec Ideal S256x128 .bf16} {v30 : FVec Ideal S4096x32 .bf16} {v35 : FVec Ideal S256x4096 .bf16}
  {v40 v49 v58 : Vec Ideal S4096x128 .bf16} {v75 : Vec Ideal S256x1 .f32}

/-- A chunk's sum. -/
theorem sums_apply (h30 : ∀ (j : Fin 4096) (c : Fin 32), v30 (ix2 j c) = if j.val / 128 = c.val then 1 else 0)
    (h35 : ∀ j : Fin 4096, v35 (ix2 r j) = (x j : EReal))
    (h40 : ∀ j : Fin 4096, Ideal.exp (∑ h, v28 (ix2 r h) * v40 (ix2 j h)) = (x (4096 + j) : EReal))
    (h49 : ∀ j : Fin 4096, Ideal.exp (∑ h, v28 (ix2 r h) * v49 (ix2 j h)) = (x (8192 + j) : EReal))
    (h58 : ∀ j : Fin 4096, Ideal.exp (∑ h, v28 (ix2 r h) * v58 (ix2 j h)) = (x (12288 + j) : EReal)) (c : Fin 128) :
    k1_pay13 v28 v30 v35 v40 v49 v58 (ix2 r c) = ((P x (128 * c + 128) - P x (128 * c) : ℝ) : EReal) := by
  have hP : P x (128 * c + 128) - P x (128 * c) = ∑ l ∈ range 128, x (128 * c + l) := by
    rw [P_add]; ring
  rw [hP]
  pointwise [k1_pay13, k1_pay7, k1_pay9, k1_pay11]
  split
  · next h =>
    simp only [h30, h35]
    exact sum_chunk x h
  · next h1 =>
    split
    · next h =>
      simp only [h30, h40]
      rw [sum_chunk (fun j => x (4096 + j)) h]
      congr 1
      exact sum_congr rfl fun l _ => congrArg x (by omega)
    · next h2 =>
      split
      · next h =>
        simp only [h30, h49]
        rw [sum_chunk (fun j => x (8192 + j)) h]
        congr 1
        exact sum_congr rfl fun l _ => congrArg x (by omega)
      · next h3 =>
        simp only [h30, h58]
        rw [sum_chunk (fun j => x (12288 + j)) (c := c.val - 32 - 32 - 32) (by omega)]
        congr 1
        exact sum_congr rfl fun l _ => congrArg x (by omega)

variable {v67 : FVec Ideal S256x128 .f32}
  (h67 : ∀ c : Fin 128, v67 (ix2 r c) = ((P x (128 * c + 128) - P x (128 * c) : ℝ) : EReal))
include h67

/-- The running sum at a chunk's end. -/
theorem upTo_apply (c : Fin 128) :
    k1_pay15 v67 k1_pay14 (constant S256x128 .f32 0x00000000#32) (ix2 r c) = (P x (128 * c + 128) : EReal) := by
  pointwise [k1_pay15]
  simp only [tri_apply, h67]
  rw [sum_upTo (fun k => P x (128 * k + 128) - P x (128 * k)) c.isLt]
  congr 1
  have := sum_range_sub (fun k => P x (128 * k)) (c.val + 1)
  simp only [mul_add, mul_one, mul_zero, P_zero, sub_zero] at this
  simpa using this

/-- The total. -/
theorem total_apply : k1_pay16 v67 k1_pay14 (constant S256x128 .f32 0x00000000#32) (ix2 r 0) = (P x 16384 : EReal) := by
  have := upTo_apply r h67 127
  pointwise [k1_pay16]
  exact this

/-- The bound: the factor times the total. -/
theorem bound_apply : k1_pay17 v67 k1_pay14 (constant S256x128 .f32 0x00000000#32) v75 (ix2 r 0) = v75 (ix2 r 0) * (P x 16384 : EReal) := by
  have := total_apply r h67
  pointwise [k1_pay17]
  rw [this]

/-- The running sum before a chunk. -/
theorem before_apply (c : Fin 128) :
    k1_pay18 v67 k1_pay14 (constant S256x128 .f32 0x00000000#32) (ix2 r c) = (P x (128 * c) : EReal) := by
  have := upTo_apply r h67 c
  pointwise [k1_pay18]
  rw [this, h67, ← EReal.coe_sub]
  congr 1
  ring

open Classical in
/-- Whether a chunk straddles the bound. -/
theorem cross_apply (c : Fin 128) :
    k1_pay19 v67 k1_pay14 (constant S256x128 .f32 0x00000000#32) v75 (ix2 r c)
      = if Cross x (v75 (ix2 r 0) * (P x 16384 : EReal)) c then 1#1 else 0#1 := by
  have h1 := upTo_apply r h67 c
  have h2 := before_apply r h67 c
  have h3 := bound_apply (v75 := v75) r h67
  pointwise [k1_pay19]
  rw [h1, h2, h3]
  unfold Cross
  by_cases ha : (P x (128 * c) : EReal) ≤ v75 (ix2 r 0) * (P x 16384 : EReal) <;>
    by_cases hb : v75 (ix2 r 0) * (P x 16384 : EReal) < (P x (128 * c + 128) : EReal) <;> simp [ha, hb, IntOp.andi]

open Classical in
/-- The straddling chunk's number, as a word. -/
theorem chunk_apply :
    k1_pay20 v67 k1_pay14 (constant S256x128 .f32 0x00000000#32) v75 (ix2 r 0)
      = univ.fold IntOp.addi 0#32 (fun c : Fin 128 => if Cross x (v75 (ix2 r 0) * (P x 16384 : EReal)) c then BitVec.ofNat 32 c else 0#32) := by
  have h1 := fun c => cross_apply (v75 := v75) r h67 c
  pointwise [k1_pay20]
  congr 1
  funext c
  rw [h1]
  split <;> rfl

open Classical in
/-- The running sum before the straddling chunk. -/
theorem base_apply :
    k1_pay21 v67 k1_pay14 (constant S256x128 .f32 0x00000000#32) v75 (ix2 r 0)
      = ∑ c : Fin 128, if Cross x (v75 (ix2 r 0) * (P x 16384 : EReal)) c then (P x (128 * c) : EReal) else 0 := by
  have h1 := fun c => cross_apply (v75 := v75) r h67 c
  have h2 := fun c => before_apply r h67 c
  pointwise [k1_pay21]
  refine sum_congr rfl fun c _ => ?_
  rw [h1, h2]
  split
  · show (((BitVec.setWidth 32 (1#1 : BitVec 1)).toInt : ℝ) : EReal) * _ = _
    simp
  · show (((BitVec.setWidth 32 (0#1 : BitVec 1)).toInt : ℝ) : EReal) * _ = _
    simp

omit h67 in
/-- The weights of the chunk numbered `C`, gathered by lane. -/
theorem lanes_apply {v95 : FVec Ideal S4096x128 .bf16} {v93 : FVec Ideal S256x1 .bf16} {v106 : FVec Ideal S256x128 .f32}
    {v111 : IVec S256x4096 1} {v102 v112 v122 v132 : Vec Ideal S256x4096 .bf16} {v97 v107 v117 v127 : Vec Ideal S1x4096 .bf16}
    {cst : FVec Ideal S256x128 .f32}
    (h95 : ∀ (j : Fin 4096) (l : Fin 128), v95 (ix2 j l) = if j.val % 128 = l.val then 1 else 0)
    (h97 : ∀ j : Fin 4096, v97 (ix2 0 j) = ((((4096 * 0 + j.val) / 128 : ℕ) : ℝ) : EReal))
    (h107 : ∀ j : Fin 4096, v107 (ix2 0 j) = ((((4096 * 1 + j.val) / 128 : ℕ) : ℝ) : EReal))
    (h117 : ∀ j : Fin 4096, v117 (ix2 0 j) = ((((4096 * 2 + j.val) / 128 : ℕ) : ℝ) : EReal))
    (h127 : ∀ j : Fin 4096, v127 (ix2 0 j) = ((((4096 * 3 + j.val) / 128 : ℕ) : ℝ) : EReal))
    (h102 : ∀ j : Fin 4096, v102 (ix2 r j) = (x (4096 * 0 + j) : EReal))
    (h112 : ∀ j : Fin 4096, v112 (ix2 r j) = (x (4096 * 1 + j) : EReal))
    (h122 : ∀ j : Fin 4096, v122 (ix2 r j) = (x (4096 * 2 + j) : EReal))
    (h132 : ∀ j : Fin 4096, v132 (ix2 r j) = (x (4096 * 3 + j) : EReal))
    {C : ℕ} (hC : C < 128) (h93 : k1_pay20 v67 k1_pay14 cst v75 (ix2 r 0) = BitVec.ofNat 32 C) (l : Fin 128) :
    k1_pay27 (k1_pay22 v67 k1_pay14 cst v75) (k1_pay23 v95) (k1_pay24 v67 k1_pay14 cst v75 v95 v97 v102)
      (k1_pay25 v67 k1_pay14 cst v75 v107) v112 k1_pay26 v117 v122 v127 v132 (ix2 r l) = (x (128 * C + l) : EReal) := by
  have e93 : k1_pay22 v67 k1_pay14 cst v75 (ix2 r 0) = (((C : ℕ) : ℝ) : EReal) := by
    show (((k1_pay20 v67 k1_pay14 cst v75 (ix2 r 0)).toInt : ℝ) : EReal) = _
    rw [h93, toInt_small (by omega)]
    simp
  have key : ∀ {n m : ℕ}, (((n : ℕ) : ℝ) : EReal) = ((m : ℕ) : ℝ) ↔ n = m := by
    intro n m
    rw [EReal.coe_eq_coe_iff, Nat.cast_inj]
  have e106 : k1_pay24 v67 k1_pay14 cst v75 v95 v97 v102 (ix2 r l) = (0 : EReal) + (if C / 32 = 0 then (x (128 * C + l) : EReal) else 0) := by
    rw [zero_add]
    pointwise [k1_pay24, k1_pay23]
    simp only [e93, h97, key, h102, h95]
    exact sum_fold x 0 C l l.isLt
  have e111 : ∀ j : Fin 4096, Scalar.select (k1_pay25 v67 k1_pay14 cst v75 v107 (ix2 r j)) (v112 (ix2 r j)) ((k1_pay26 : FVec Ideal S256x4096 .bf16) (ix2 r j))
      = if (4096 * 1 + j.val) / 128 = C then (x (4096 * 1 + j) : EReal) else 0 := by
    intro j
    pointwise [k1_pay25, k1_pay26]
    simp only [e93, h107, key, h112]
  have e95 : ∀ j : Fin 4096, k1_pay23 (F := Ideal) v95 (ix2 j l) = if j.val % 128 = l.val then 1 else 0 := by
    intro j
    pointwise [k1_pay23]
    exact h95 j l
  pointwise [k1_pay27]
  simp only [e106, e111, e93, h117, h127, key, h122, h132, e95]
  rw [sum_fold x 1 C l l.isLt, sum_fold x 2 C l l.isLt, sum_fold x 3 C l l.isLt]
  exact sum_folds x C l l.isLt hC

end Row

section Choice

variable {x : ℕ → ℝ} (r : Fin 256) {v76 v92 : FVec Ideal S256x1 .f32} {v93 : FVec Ideal S256x1 .bf16}
  {v95 : FVec Ideal S4096x128 .bf16} {v106 : FVec Ideal S256x128 .f32} {v111 : IVec S256x4096 1} {v112 : Vec Ideal S256x4096 .bf16}
  {v113 : FVec Ideal S256x4096 .bf16} {v117 : Vec Ideal S1x4096 .bf16} {v122 : Vec Ideal S256x4096 .bf16}
  {v127 : Vec Ideal S1x4096 .bf16} {v132 : Vec Ideal S256x4096 .bf16} {C : ℕ}
  (hA : ∀ l : Fin 128, k1_pay27 v93 v95 v106 v111 v112 v113 v117 v122 v127 v132 (ix2 r l) = (x (128 * C + l) : EReal))
include hA

open Classical in
/-- How many lanes' running sums stay at or below the bound, as a word. -/
theorem fine_apply (h92 : v92 (ix2 r 0) = (P x (128 * C) : EReal)) :
    k1_pay28 k1_pay14 v76 v92 v93 v95 v106 v111 v112 v113 v117 v122 v127 v132 (ix2 r 0)
      = BitVec.ofNat 32 (univ.filter fun l : Fin 128 => (P x (128 * C + l.val + 1) : EReal) ≤ v76 (ix2 r 0)).card := by
  pointwise [k1_pay28]
  simp only [hA, tri_apply, h92]
  refine (IndicatorCount.fold_addi_setWidth_eq_card _ _).trans ?_
  congr 2
  ext l
  simp only [mem_filter, mem_univ, true_and]
  rw [sum_upTo (fun k => x (128 * C + k)) l.isLt, ← EReal.coe_add, ← P_add, ← add_assoc]
  by_cases h : (P x (128 * C + l.val + 1) : EReal) ≤ v76 (ix2 r 0) <;> simp [h]

/-- The weight at the lane counted. -/
theorem picked_apply {n : ℕ} (hn : n < 128)
    (h28 : k1_pay28 k1_pay14 v76 v92 v93 v95 v106 v111 v112 v113 v117 v122 v127 v132 (ix2 r 0) = BitVec.ofNat 32 n) :
    k1_pay29 k1_pay14 v76 v92 v93 v95 v106 v111 v112 v113 v117 v122 v127 v132 (ix2 r 0) = (x (128 * C + n) : EReal) := by
  pointwise [k1_pay29]
  have hmin : IntOp.minsi (BitVec.ofNat 32 n) 127#32 = BitVec.ofNat 32 n := by
    have h1 : (BitVec.ofNat 32 n).toInt = n := toInt_small (by omega)
    have h2 : (127#32 : BitVec 32).toInt = 127 := by decide
    unfold IntOp.minsi
    have h3 : (BitVec.ofNat 32 n).slt 127#32 = decide ((n : ℤ) < 127) := by simp only [BitVec.slt, h1, h2]
    rw [h3]
    by_cases h : (n : ℤ) < 127
    · simp [h]
    · obtain rfl : n = 127 := by omega
      simp
  simp only [hA, h28, hmin]
  rw [sum_eq_single (⟨n, hn⟩ : Fin 128)]
  · simp [IntOp.cmpi, Scalar.select]
  · intro l _ hl
    have : BitVec.ofNat 32 l.val ≠ BitVec.ofNat 32 n := by
      intro e
      have := congrArg BitVec.toInt e
      rw [toInt_small (by omega), toInt_small (by omega)] at this
      exact hl (Fin.ext (by exact_mod_cast this))
    have e : (BitVec.ofNat 32 l.val == BitVec.ofNat 32 n) = false := beq_false_of_ne this
    simp only [IntOp.cmpi, Scalar.select, e]
    simp
  · intro h; exact absurd (mem_univ _) h

end Choice

section Result

variable {x : ℕ → ℝ} (hx : ∀ i, 0 < x i) (r : Fin 256)
  {v28 : FVec Ideal S256x128 .bf16} {v30 : FVec Ideal S4096x32 .bf16} {v35 : FVec Ideal S256x4096 .bf16}
  {v40 v49 v58 : Vec Ideal S4096x128 .bf16} {v75 : Vec Ideal S256x1 .f32} {v94 : Vec Ideal S4096x128 .bf16}
  {v102 v112 v122 v132 : Vec Ideal S256x4096 .bf16} {v97 v107 v117 v127 : Vec Ideal S1x4096 .bf16}
  {v155 : Vec Ideal S256x1 .bf16}
  (h30 : ∀ (j : Fin 4096) (c : Fin 32), v30 (ix2 j c) = if j.val / 128 = c.val then 1 else 0)
  (h35 : ∀ j : Fin 4096, v35 (ix2 r j) = (x j : EReal))
  (h40 : ∀ j : Fin 4096, Ideal.exp (∑ h, v28 (ix2 r h) * v40 (ix2 j h)) = (x (4096 + j) : EReal))
  (h49 : ∀ j : Fin 4096, Ideal.exp (∑ h, v28 (ix2 r h) * v49 (ix2 j h)) = (x (8192 + j) : EReal))
  (h58 : ∀ j : Fin 4096, Ideal.exp (∑ h, v28 (ix2 r h) * v58 (ix2 j h)) = (x (12288 + j) : EReal))
  (h94 : ∀ (j : Fin 4096) (l : Fin 128), v94 (ix2 j l) = if j.val % 128 = l.val then 1 else 0)
  (h97 : ∀ j : Fin 4096, v97 (ix2 0 j) = ((((4096 * 0 + j.val) / 128 : ℕ) : ℝ) : EReal))
  (h107 : ∀ j : Fin 4096, v107 (ix2 0 j) = ((((4096 * 1 + j.val) / 128 : ℕ) : ℝ) : EReal))
  (h117 : ∀ j : Fin 4096, v117 (ix2 0 j) = ((((4096 * 2 + j.val) / 128 : ℕ) : ℝ) : EReal))
  (h127 : ∀ j : Fin 4096, v127 (ix2 0 j) = ((((4096 * 3 + j.val) / 128 : ℕ) : ℝ) : EReal))
  (h102 : ∀ j : Fin 4096, v102 (ix2 r j) = (x (4096 * 0 + j) : EReal))
  (h112 : ∀ j : Fin 4096, v112 (ix2 r j) = (x (4096 * 1 + j) : EReal))
  (h122 : ∀ j : Fin 4096, v122 (ix2 r j) = (x (4096 * 2 + j) : EReal))
  (h132 : ∀ j : Fin 4096, v132 (ix2 r j) = (x (4096 * 3 + j) : EReal))
  (h155 : v155 (ix2 r 0) = (x 0 : EReal))
include hx h30 h35 h40 h49 h58 h94 h97 h107 h117 h127 h102 h112 h122 h132 h155

/-- The word and the number stored for row `r`. -/
theorem row_result {v67 : FVec Ideal S256x128 .f32} (e67 : v67 = k1_pay13 v28 v30 v35 v40 v49 v58) {cst : FVec Ideal S256x128 .f32}
    (ecst : cst = constant S256x128 .f32 0x00000000#32) {t : EReal} (ht : t = v75 (ix2 r 0) * (P x 16384 : EReal))
    {v144 : IVec S256x1 32}
    (e144 : v144 = k1_pay28 k1_pay14 (k1_pay17 v67 k1_pay14 cst v75) (k1_pay21 v67 k1_pay14 cst v75) (k1_pay22 v67 k1_pay14 cst v75)
      (k1_pay23 v94) (k1_pay24 v67 k1_pay14 cst v75 v94 v97 v102) (k1_pay25 v67 k1_pay14 cst v75 v107) v112 k1_pay26 v117 v122 v127 v132)
    {v153 : FVec Ideal S256x1 .f32}
    (e153 : v153 = k1_pay29 k1_pay14 (k1_pay17 v67 k1_pay14 cst v75) (k1_pay21 v67 k1_pay14 cst v75) (k1_pay22 v67 k1_pay14 cst v75)
      (k1_pay23 v94) (k1_pay24 v67 k1_pay14 cst v75 v94 v97 v102) (k1_pay25 v67 k1_pay14 cst v75 v107) v112 k1_pay26 v117 v122 v127 v132)
    {v154 : IVec S256x1 1} (e154 : v154 = k1_pay30 (k1_pay16 v67 k1_pay14 cst) (k1_pay17 v67 k1_pay14 cst v75)) :
    k1_pay1 (k1_pay20 v67 k1_pay14 cst v75) v144 v154 (ix2 r 0) = BitVec.ofNat 32 (pick x t)
    ∧ k1_pay2 (k1_pay16 v67 k1_pay14 cst) v153 v154 v155 (ix2 r 0)
      = ((Real.log (x (pick x t)) - Real.log (P x 16384) : ℝ) : EReal) := by
  classical
  subst ecst
  have h67 : ∀ c : Fin 128, v67 (ix2 r c) = ((P x (128 * c + 128) - P x (128 * c) : ℝ) : EReal) := by
    intro c; rw [e67]; exact sums_apply r h30 h35 h40 h49 h58 c
  have hz := total_apply r h67
  have hb := bound_apply (v75 := v75) r h67
  have hch := chunk_apply (v75 := v75) r h67
  have hba := base_apply (v75 := v75) r h67
  rw [← ht] at hb hch hba
  have hzpos := Spec.total_pos x hx
  have hlog : ∀ i, Ideal.log (x i : EReal) = (Real.log (x i) : EReal) := fun i => by
    rw [Ideal.log_coe, if_neg (not_le.2 (hx i))]
  have hlogz : Ideal.log (P x 16384 : EReal) = (Real.log (P x 16384) : EReal) := by
    rw [Ideal.log_coe, if_neg (not_le.2 hzpos)]
  have h154 : v154 (ix2 r 0) = if (P x 16384 : EReal) ≤ t then 1#1 else 0#1 := by
    rw [e154]
    pointwise [k1_pay30]
    rw [hz, hb]
    by_cases h : (P x 16384 : EReal) ≤ t <;> simp [h]
  -- what the pieces give once the chunk's number and the sum before it are known
  have core : ∀ C n : ℕ, C < 128 → n < 128 → k1_pay20 v67 k1_pay14 (constant S256x128 .f32 0x00000000#32) v75 (ix2 r 0) = BitVec.ofNat 32 C →
      k1_pay21 v67 k1_pay14 (constant S256x128 .f32 0x00000000#32) v75 (ix2 r 0) = (P x (128 * C) : EReal) →
      (univ.filter fun l : Fin 128 => (P x (128 * C + l.val + 1) : EReal) ≤ t).card = n →
      v144 (ix2 r 0) = BitVec.ofNat 32 n ∧ v153 (ix2 r 0) = (x (128 * C + n) : EReal) := by
    intro C n hC hn h20 h21 hcard
    have hA := fun l => lanes_apply (x := x) r (v93 := k1_pay22 v67 k1_pay14 (constant S256x128 .f32 0x00000000#32) v75)
      (v106 := k1_pay24 v67 k1_pay14 (constant S256x128 .f32 0x00000000#32) v75 v94 v97 v102)
      (v111 := k1_pay25 v67 k1_pay14 (constant S256x128 .f32 0x00000000#32) v75 v107)
      h94 h97 h107 h117 h127 h102 h112 h122 h132 hC h20 l
    have h28 := fine_apply r hA (v76 := k1_pay17 v67 k1_pay14 (constant S256x128 .f32 0x00000000#32) v75) h21
    rw [hb, hcard] at h28
    refine ⟨by rw [e144]; exact h28, ?_⟩
    rw [e153]
    exact picked_apply r hA hn h28
  rcases cases_bound x t with h | ⟨c, hc, hcr⟩ | h
  · -- the bound lies below zero
    have hno : ∀ c : Fin 128, ¬ Cross x t c := by
      intro c hcr
      have h0 : (0 : EReal) ≤ P x (128 * c) := by
        have := (P_strictMono hx).monotone (Nat.zero_le (128 * c.val))
        rw [P_zero] at this
        exact EReal.coe_nonneg.2 this
      exact absurd (lt_of_lt_of_le h (h0.trans hcr.1)) (lt_irrefl _)
    have hpos : ∀ n, 0 < n → t < (P x n : EReal) := by
      intro n hn
      have := P_strictMono hx hn
      rw [P_zero] at this
      exact h.trans (EReal.coe_pos.2 this)
    rw [fold_words_none _ hno] at hch
    have hba' : k1_pay21 v67 k1_pay14 (constant S256x128 .f32 0x00000000#32) v75 (ix2 r 0) = (P x (128 * 0) : EReal) := by
      rw [hba, Nat.mul_zero, P_zero]; simp [hno]
    obtain ⟨h1, h2⟩ := core 0 0 (by norm_num) (by norm_num) hch hba' (by
      rw [card_eq_zero, filter_eq_empty_iff]
      intro l _
      exact not_le.2 (hpos _ (by omega)))
    have hp : pick x t = 0 := pick_eq hx (by norm_num) (hpos _ (by norm_num)) (.inl rfl)
    rw [if_neg (not_le.2 (hpos 16384 (by norm_num)))] at h154
    rw [hp]
    constructor
    · pointwise [k1_pay1]
      rw [hch, h1, h154]; rfl
    · pointwise [k1_pay2]
      rw [hz, h2, h154, hlogz]
      show Ideal.log (x (128 * 0 + 0) : EReal) - _ = _
      rw [hlog, ← EReal.coe_sub]
  · -- the bound lies in chunk `c`
    have hone : ∀ k : Fin 128, Cross x t k ↔ k = ⟨c, hc⟩ := by
      intro k
      constructor
      · intro hk; exact Fin.ext (Cross.unique hx hk hcr)
      · rintro rfl; exact hcr
    rw [fold_words_single _ ⟨c, hc⟩ hone] at hch
    have hba' : k1_pay21 v67 k1_pay14 (constant S256x128 .f32 0x00000000#32) v75 (ix2 r 0) = (P x (128 * c) : EReal) := by
      rw [hba]; simp [hone]
    obtain ⟨n, hn, hcard, hp⟩ := card_below hx hc hcr
    obtain ⟨h1, h2⟩ := core c n hc hn hch hba' hcard
    have hlt : ¬ (P x 16384 : EReal) ≤ t := by
      refine not_le.2 (lt_of_lt_of_le hcr.2 (EReal.coe_le_coe_iff.2 ((P_strictMono hx).monotone (by omega))))
    rw [if_neg hlt] at h154
    rw [hp]
    constructor
    · pointwise [k1_pay1]
      rw [hch, h1, h154]
      show BitVec.ofNat 32 c * BitVec.ofNat 32 128 + BitVec.ofNat 32 n = _
      rw [← BitVec.ofNat_mul, ← BitVec.ofNat_add, Nat.mul_comm]
    · pointwise [k1_pay2]
      rw [hz, h2, h154, hlogz]
      show Ideal.log (x (128 * c + n) : EReal) - _ = _
      rw [hlog, ← EReal.coe_sub]
  · -- the bound lies at or past the total
    rw [if_pos h] at h154
    rw [pick_none hx h]
    constructor
    · pointwise [k1_pay1]
      rw [h154]; rfl
    · pointwise [k1_pay2]
      rw [hz, h154, hlogz, h155]
      show Ideal.log (x 0 : EReal) - _ = _
      rw [hlog, ← EReal.coe_sub]

end Result

end Cert.Proof.Kern
-- ==== Proof.HostTables.lean ====
/-
  The tables the host builds for the selecting kernel, over extended reals, at an index: which chunk a place lies in, which
  place of its chunk it is, the chunk's number as a float, and the weights and biases laid out for the kernels.
-/
module

public import proofs.«01_k».proof.Proof.Gen.KernelIdeal.Frame
public import proofs.«01_k».proof.Proof.Region1Row
public import Idealize.ShloMosaic.Lib.Pointwise

@[expose] public section

set_option maxRecDepth 16384

noncomputable section

namespace Cert.Proof.Kern

open Idealize Idealize.ShloMosaic Idealize.ShloMosaic.Pipeline Idealize.ShloMosaic.TcCoe Idealize.ShloMosaic.StableHlo Idealize.SL.Sem
open Cert.KernelIdeal Cert.KernelIdeal.Gen
open Cert.Proof.Sampling

variable {F : FTy → Type} [FloatOps F]

/-- The floored quotient by a scalar, as the host program spells it. -/
def quot (S : Shape) (h : S_.BroadcastsInDim S (![] : Fin 0 → Fin S.rank)) (x : IVec S 32) (d : IVec S_ 32) : IVec S 32 :=
  select (andi (cmpi .ne (signi x) (broadcastInDim S ![] h (signi d))) (cmpi .ne (Host.remsi x (broadcastInDim S ![] h d)) (broadcastInDim S ![] h (constantI S_ 32 0#32))))
    (subi (Host.divsi x (broadcastInDim S ![] h d)) (broadcastInDim S ![] h (constantI S_ 32 1#32))) (Host.divsi x (broadcastInDim S ![] h d))

/-- The floored remainder by a scalar, as the host program spells it. -/
def rest (x : IVec S4096x1 32) (d : IVec S_ 32) : IVec S4096x1 32 :=
  have d' : IVec S_ 32 := select (cmpi .eq d (constantI S_ 32 0#32)) (constantI S_ 32 1#32) d
  have q := Host.remsi x (broadcastInDim S4096x1 ![] bcast_S_S4096x1 d')
  select (andi (cmpi .ne (cmpi .slt q (broadcastInDim S4096x1 ![] bcast_S_S4096x1 (constantI S_ 32 0#32)))
      (broadcastInDim S4096x1 ![] bcast_S_S4096x1 (cmpi .slt d' (constantI S_ 32 0#32))))
      (cmpi .ne q (broadcastInDim S4096x1 ![] bcast_S_S4096x1 (constantI S_ 32 0#32))))
    (addi q (broadcastInDim S4096x1 ![] bcast_S_S4096x1 d')) q

theorem ops1_1 (V : Valuation τ sig (Elt F)) : after hostOps1_1 V (main_v8 : DevRef τ sig)
    = quot S4096x1 bcast_S_S4096x1 (V (main_v7 : DevRef τ sig)) (V (main_c : DevRef τ sig)) := by
  after_results
  rfl
theorem ops1_3 (V : Valuation τ sig (Elt F)) : after hostOps1_3 V (main_v16 : DevRef τ sig)
    = rest (V (main_v15 : DevRef τ sig)) (V (main_c_0 : DevRef τ sig)) := by
  after_results
  simp only [TRef.ofBuf_toBuf]
  rfl
theorem ops1_5 (V : Valuation τ sig (Elt F)) : after hostOps1_5 V (main_v25 : DevRef τ sig)
    = quot S1x16384 bcast_S_S1x16384 (V (main_v24 : DevRef τ sig)) (V (main_c_1 : DevRef τ sig)) := by
  after_results
  rfl

theorem msb_small (n : ℕ) (hn : n < 16384) : (BitVec.ofNat 32 n).msb = false := by
  rw [BitVec.msb_eq_false_iff_two_mul_lt, BitVec.toNat_ofNat]
  omega

/-- The host's quotient of a small natural by 128. -/
theorem divsi_small (n : ℕ) (hn : n < 16384) : IntOp.divsi .host (BitVec.ofNat 32 n) 128#32 = BitVec.ofNat 32 (n / 128) := by
  have c : ¬ IntOp.SDivCorner (BitVec.ofNat 32 n) 128#32 := by
    unfold IntOp.SDivCorner
    simp
  unfold IntOp.divsi
  rw [if_neg c, BitVec.sdiv_eq, msb_small n hn]
  show BitVec.ofNat 32 n / 128#32 = _
  refine BitVec.eq_of_toNat_eq ?_
  rw [BitVec.toNat_udiv, BitVec.toNat_ofNat, BitVec.toNat_ofNat, BitVec.toNat_ofNat, Nat.mod_eq_of_lt (show n < 2 ^ 32 by omega),
    Nat.mod_eq_of_lt (show n / 128 < 2 ^ 32 by omega)]

/-- The host's remainder of a small natural by 128. -/
theorem remsi_small (n : ℕ) (hn : n < 16384) : IntOp.remsi .host (BitVec.ofNat 32 n) 128#32 = BitVec.ofNat 32 (n % 128) := by
  have c : ¬ IntOp.SDivCorner (BitVec.ofNat 32 n) 128#32 := by
    unfold IntOp.SDivCorner
    simp
  unfold IntOp.remsi
  rw [if_neg c, BitVec.srem_eq, msb_small n hn]
  show BitVec.ofNat 32 n % 128#32 = _
  refine BitVec.eq_of_toNat_eq ?_
  rw [BitVec.toNat_umod, BitVec.toNat_ofNat, BitVec.toNat_ofNat, BitVec.toNat_ofNat, Nat.mod_eq_of_lt (show n < 2 ^ 32 by omega),
    Nat.mod_eq_of_lt (show n % 128 < 2 ^ 32 by omega)]

/-- The floored quotient of a small natural by 128, at an index. -/
theorem quot_apply (n : ℕ) (hn : n < 16384) (x : IVec S4096x1 32) (r : Fin 4096) (hx : x (ix2 r 0) = BitVec.ofNat 32 n) :
    quot S4096x1 bcast_S_S4096x1 x (constantI S_ 32 128#32) (ix2 r 0) = BitVec.ofNat 32 (n/128) := by
  pointwise [quot]
  rw [hx, divsi_small n hn, remsi_small n hn, msb_small n hn]
  rcases Nat.eq_zero_or_pos n with rfl | hp
  · decide
  · rw [if_neg (show ¬ BitVec.ofNat 32 n = 0 from fun h => by
      have e := congrArg BitVec.toNat h
      rw [BitVec.toNat_ofNat] at e
      simp at e
      omega)]
    generalize BitVec.ofNat 32 (n / 128) = u
    generalize IntOp.cmpi _ (BitVec.ofNat 32 (n % 128)) _ = v
    show Scalar.select (IntOp.andi (IntOp.cmpi .ne (1 : BitVec 32) 1) v) (IntOp.subi u 1#32) u = u
    rw [show IntOp.andi (IntOp.cmpi .ne (1 : BitVec 32) 1) v = 0#1 by revert v; decide]
    rfl

/-- The floored quotient of a small natural by 128, at an index of a row. -/
theorem quot_apply' (n : ℕ) (hn : n < 16384) (x : IVec S1x16384 32) (j : Fin 16384) (hx : x (ix2 0 j) = BitVec.ofNat 32 n) :
    quot S1x16384 bcast_S_S1x16384 x (constantI S_ 32 128#32) (ix2 0 j) = BitVec.ofNat 32 (n/128) := by
  pointwise [quot]
  rw [hx, divsi_small n hn, remsi_small n hn, msb_small n hn]
  rcases Nat.eq_zero_or_pos n with rfl | hp
  · decide
  · rw [if_neg (show ¬ BitVec.ofNat 32 n = 0 from fun h => by
      have e := congrArg BitVec.toNat h
      rw [BitVec.toNat_ofNat] at e
      simp at e
      omega)]
    generalize BitVec.ofNat 32 (n / 128) = u
    generalize IntOp.cmpi _ (BitVec.ofNat 32 (n % 128)) _ = v
    show Scalar.select (IntOp.andi (IntOp.cmpi .ne (1 : BitVec 32) 1) v) (IntOp.subi u 1#32) u = u
    rw [show IntOp.andi (IntOp.cmpi .ne (1 : BitVec 32) 1) v = 0#1 by revert v; decide]
    rfl

/-- The floored remainder of a small natural by 128, at an index. -/
theorem rest_apply (n : ℕ) (hn : n < 16384) (x : IVec S4096x1 32) (r : Fin 4096) (hx : x (ix2 r 0) = BitVec.ofNat 32 n) :
    rest x (constantI S_ 32 128#32) (ix2 r 0) = BitVec.ofNat 32 (n % 128) := by
  pointwise [rest]
  rw [hx, show Scalar.select (IntOp.cmpi CmpIPredicate.eq 128#32 0#32) 1#32 128#32 = 128#32 by decide, remsi_small n hn]
  have h : ∀ k : Fin 128, Scalar.select (IntOp.andi (IntOp.cmpi .ne (IntOp.cmpi .slt (BitVec.ofNat 32 k.val) 0#32) (IntOp.cmpi .slt 128#32 0#32))
      (IntOp.cmpi .ne (BitVec.ofNat 32 k.val) 0#32)) (IntOp.addi (BitVec.ofNat 32 k.val) 128#32) (BitVec.ofNat 32 k.val) = BitVec.ofNat 32 k.val := by decide +kernel
  exact h ⟨n % 128, Nat.mod_lt _ (by decide)⟩

/-- The table of chunks: one where the place lies in the chunk, zero elsewhere. -/
def bind (q : IVec S4096x1 32) : FVec F S4096x32 .bf16 :=
  uitofp .bf16 (cmpi .eq (broadcastInDim S4096x32 ![0, 1] bcast_S4096x1_S4096x32_0_1 q)
    (broadcastInDim S4096x32 ![0, 1] bcast_S1x32_S4096x32_0_1 (broadcastInDim S1x32 ![1] bcast_S32_S1x32_1 (iotaInDim S32 32 0))))

/-- The table of places within a chunk: one at the place's own, zero elsewhere. -/
def fold (q : IVec S4096x1 32) : FVec F S4096x128 .bf16 :=
  uitofp .bf16 (cmpi .eq (broadcastInDim S4096x128 ![0, 1] bcast_S4096x1_S4096x128_0_1 q)
    (broadcastInDim S4096x128 ![0, 1] bcast_S1x128_S4096x128_0_1 (broadcastInDim S1x128 ![1] bcast_S128_S1x128_1 (iotaInDim S128 32 0))))

/-- The numbers of the places, as a column. -/
def places : IVec S4096x1 32 := broadcastInDim S4096x1 ![0] bcast_S4096_S4096x1_0 (iotaInDim S4096 32 0)

/-- The numbers of the places, as a row. -/
def placesRow : IVec S1x16384 32 := broadcastInDim S1x16384 ![1] bcast_S16384_S1x16384_1 (iotaInDim S16384 32 0)

theorem places_apply (r : Fin 4096) : places (ix2 r 0) = BitVec.ofNat 32 r.val := by
  pointwise [places]
theorem placesRow_apply (j : Fin 16384) : placesRow (ix2 0 j) = BitVec.ofNat 32 j.val := by
  pointwise [placesRow]

/-- The float of a comparison of two small naturals. -/
theorem eq_small (n k : ℕ) (hn : n < 16384) (hk : k < 16384) :
    (((IntOp.cmpi .eq (BitVec.ofNat 32 n) (BitVec.ofNat 32 k)).toNat : ℝ) : EReal) = if n = k then 1 else 0 := by
  by_cases h : n = k
  · subst h
    simp [IntOp.cmpi]
  · have e : BitVec.ofNat 32 n ≠ BitVec.ofNat 32 k := fun e => h (by
      have e := congrArg BitVec.toNat e
      rw [BitVec.toNat_ofNat, BitVec.toNat_ofNat] at e
      omega)
    rw [if_neg h]
    simp [IntOp.cmpi, e]

theorem bind_apply (q : IVec S4096x1 32) (n : ℕ) (hn : n < 16384) (r : Fin 4096) (k : Fin 32) (hq : q (ix2 r 0) = BitVec.ofNat 32 n) :
    bind (F := Ideal) q (ix2 r k) = if n = k.val then 1 else 0 := by
  refine Eq.trans ?_ (eq_small n k.val hn (by omega))
  pointwise [bind]
  rw [hq]
  rfl
theorem fold_apply (q : IVec S4096x1 32) (n : ℕ) (hn : n < 16384) (r : Fin 4096) (k : Fin 128) (hq : q (ix2 r 0) = BitVec.ofNat 32 n) :
    fold (F := Ideal) q (ix2 r k) = if n = k.val then 1 else 0 := by
  refine Eq.trans ?_ (eq_small n k.val hn (by omega))
  pointwise [fold]
  rw [hq]
  rfl

end Cert.Proof.Kern
-- ==== Proof.Region1.lean ====
/-
  What one grid point of the selecting kernel leaves for a row of its block, over extended reals: the place the row's bound
  picks among the weights, and the logarithm of the share there. The weights are the exponentials of the row's products with
  the candidates' rows; the tables it reads sum the weights in chunks of 128.
-/
module

public import proofs.«01_k».proof.Proof.Gen.KernelIdeal.Frame
public import proofs.«01_k».proof.Proof.Region1Row
public import Idealize.ShloMosaic.Lib.Pointwise
public import Idealize.ShloMosaic.Lib.Pipeline.ValueKit.Tiles

@[expose] public section

set_option maxRecDepth 16384

noncomputable section

namespace Cert.Proof.Kern

open Idealize Idealize.ShloMosaic Idealize.ShloMosaic.Pipeline Idealize.ShloMosaic.TcCoe Idealize.SL.Sem
open Cert.KernelIdeal Cert.KernelIdeal.Gen
open Cert.Proof.Sampling

/-- The embedding of a row of the block. -/
theorem pay3_apply (v0 : Vec Ideal S3072x128 .bf16) (v2 v6 v11 : Vec Ideal S256x1024 .f32) (v16 : Vec Ideal S1x128 .f32) (r : Fin 256) (h : Fin 128) :
    k1_pay3 v0 v2 v6 v11 v16 (ix2 r h) = Spec.unit (Spec.joint (fun k => v2 (ix2 r k)) (fun k => v6 (ix2 r k)) (fun k => v11 (ix2 r k))
      (fun h k => v0 (ix2 k h)) (fun h => v16 (ix2 0 h))) h := by
  pointwise [k1_pay3]
  rfl

/-- The weights of a row, from the row's embedding and a block of candidates. -/
theorem pay8_apply (v28 : FVec Ideal S256x128 .bf16) (v40 : Vec Ideal S4096x128 .bf16) (r : Fin 256) (j : Fin 4096) :
    k1_pay8 v28 v40 (ix2 r j) = Ideal.exp (∑ h, v28 (ix2 r h) * v40 (ix2 j h)) := by
  pointwise [k1_pay8, k1_pay7]
theorem pay10_apply (v28 : FVec Ideal S256x128 .bf16) (v40 : Vec Ideal S4096x128 .bf16) (r : Fin 256) (j : Fin 4096) :
    k1_pay10 v28 v40 (ix2 r j) = Ideal.exp (∑ h, v28 (ix2 r h) * v40 (ix2 j h)) := by
  pointwise [k1_pay10, k1_pay9]
theorem pay12_apply (v28 : FVec Ideal S256x128 .bf16) (v40 : Vec Ideal S4096x128 .bf16) (r : Fin 256) (j : Fin 4096) :
    k1_pay12 v28 v40 (ix2 r j) = Ideal.exp (∑ h, v28 (ix2 r h) * v40 (ix2 j h)) := by
  pointwise [k1_pay12, k1_pay11]
theorem pay5_apply (v0 : Vec Ideal S3072x128 .bf16) (v2 v6 v11 : Vec Ideal S256x1024 .f32) (v16 : Vec Ideal S1x128 .f32)
    (v31 : Vec Ideal S4096x128 .bf16) (r : Fin 256) (j : Fin 4096) :
    k1_pay5 v0 v2 v6 v11 v16 v31 (ix2 r j) = Ideal.exp (∑ h, k1_pay3 v0 v2 v6 v11 v16 (ix2 r h) * v31 (ix2 j h)) := by
  have e : k1_pay5 v0 v2 v6 v11 v16 v31 = k1_pay7 (k1_pay3 v0 v2 v6 v11 v16) v31 := by
    unfold k1_pay5 k1_pay7
    rfl
  rw [e]
  generalize k1_pay3 v0 v2 v6 v11 v16 = v28
  pointwise [k1_pay7]
theorem pay6_apply (v35 : FVec Ideal S256x4096 .bf16) (x : S256x4096.Idx) : k1_pay6 v35 x = v35 x := by
  pointwise [k1_pay6]
theorem pay4_apply (v29 : Vec Ideal S4096x32 .bf16) (x : S4096x32.Idx) : k1_pay4 v29 x = v29 x := by
  pointwise [k1_pay4]

/-- An index of rank 2 from its coordinates. -/
theorem idx2_eta {n m : ℕ} (x : (⟨2, ![n, m]⟩ : Shape).Idx) : x = ix2 (x 0) (x 1) := by
  funext a
  match a with
  | ⟨0, _⟩ => rfl
  | ⟨1, _⟩ => rfl

/-- What is read back from the buffer of weights, written in four blocks of columns. -/
theorem scratch_apply (w : Fin 256 → ℕ → EReal) (a0 a1 a2 a3 : FVec Ideal S256x4096 .bf16)
    (h0 : ∀ r j, a0 (ix2 r j) = w r (0 + j.val)) (h1 : ∀ r j, a1 (ix2 r j) = w r (4096 + j.val))
    (h2 : ∀ r j, a2 (ix2 r j) = w r (8192 + j.val)) (h3 : ∀ r j, a3 (ix2 r j) = w r (12288 + j.val))
    (B : LoadRect S256x16384) (x : B.shape.Idx) :
    (View.whole cc1_scratch0).readCov (Val := Elt Ideal) [⟨Rect.unit ![0, 12288] ![256, 4096] inb_S256x16384_S256x4096_0_12288, a3⟩,
      ⟨Rect.unit ![0, 8192] ![256, 4096] inb_S256x16384_S256x4096_0_8192, a2⟩,
      ⟨Rect.unit ![0, 4096] ![256, 4096] inb_S256x16384_S256x4096_0_4096, a1⟩,
      ⟨Rect.unit ![0, 0] ![256, 4096] inb_S256x16384_S256x4096_0_0, a0⟩] B x = w (B.idx x 0) (B.idx x 1).val := by
  have key : ∀ (o : ℕ) (inb : ∀ a, (![0, o] : Fin 2 → ℕ) a + (![256, 4096] : Fin 2 → ℕ) a ≤ S256x16384.size a) (a : FVec Ideal S256x4096 .bf16)
      (ha : ∀ r j, a (ix2 r j) = w r (o + j.val)) (x : (Rect.unit (s := S256x16384) ![0, o] ![256, 4096] inb).shape.Idx),
      a x = (fun y : S256x16384.Idx => w (y 0) (y 1).val) ((Rect.unit (s := S256x16384) ![0, o] ![256, 4096] inb).emb x) := by
    intro o inb a ha x
    have e0 : ((Rect.unit (s := S256x16384) ![0, o] ![256, 4096] inb).emb x) 0 = (x 0 : Fin 256) := by
      refine Fin.ext ((Rect.idx_unit_val _ _ _ x 0).trans ?_)
      exact Nat.zero_add _
    have e1 : (((Rect.unit (s := S256x16384) ![0, o] ![256, 4096] inb).emb x) 1).val = o + (x 1).val := Rect.idx_unit_val _ _ _ x 1
    refine (congrArg a (idx2_eta (n := 256) (m := 4096) x)).trans ((ha _ _).trans ?_)
    simp only [e0, e1]
  rw [View.readCov_eq_canon']
  refine View.canon_apply_of_pieces (Val := Elt Ideal) (S := S256x16384) (e := .bf16) (fun y : S256x16384.Idx => w (y 0) (y 1).val) _ ?_ _ ?_
  · intro p hp
    simp only [List.mem_cons, List.not_mem_nil, or_false] at hp
    rcases hp with rfl | rfl | rfl | rfl
    · exact key 12288 inb_S256x16384_S256x4096_0_12288 a3 h3
    · exact key 8192 inb_S256x16384_S256x4096_0_8192 a2 h2
    · exact key 4096 inb_S256x16384_S256x4096_0_4096 a1 h1
    · exact key 0 inb_S256x16384_S256x4096_0_0 a0 h0
  · have y0 := (B.idx x 0).isLt
    have y1 := (B.idx x 1).isLt
    generalize B.idx x = y at y0 y1
    change (y 0).val < 256 at y0
    change (y 1).val < 16384 at y1
    have inn : ∀ (o : ℕ) (inb : ∀ a, (![0, o] : Fin 2 → ℕ) a + (![256, 4096] : Fin 2 → ℕ) a ≤ S256x16384.size a), o ≤ (y 1).val → (y 1).val < o + 4096 →
        y ∈ (Rect.unit (s := S256x16384) ![0, o] ![256, 4096] inb).set := by
      intro o inb ha hb
      rw [Rect.mem_set_unit]
      intro a
      match a with
      | ⟨0, _⟩ => exact ⟨Nat.zero_le _, by simpa using y0⟩
      | ⟨1, _⟩ => exact ⟨ha, hb⟩
    simp only [List.mem_cons, List.not_mem_nil, or_false, exists_eq_or_imp, exists_eq_left]
    rcases Nat.lt_or_ge (y 1).val 4096 with h | h
    · exact .inr (.inr (.inr (inn 0 inb_S256x16384_S256x4096_0_0 (Nat.zero_le _) (by omega))))
    rcases Nat.lt_or_ge (y 1).val 8192 with h' | h'
    · exact .inr (.inr (.inl (inn 4096 inb_S256x16384_S256x4096_0_4096 h (by omega))))
    rcases Nat.lt_or_ge (y 1).val 12288 with h'' | h''
    · exact .inr (.inl (inn 8192 inb_S256x16384_S256x4096_0_8192 h' (by omega)))
    · exact .inl (inn 12288 inb_S256x16384_S256x4096_0_12288 h'' (by omega))

/-- What one grid point leaves in the two outputs' blocks, from the blocks it reads. -/
def outs (c : Dev nD) (t : Fin cfg1.N) (x0 x1 x2 : Vec Ideal S256x1024 .f32) (x3 : Vec Ideal S3072x128 .bf16) (x4 : Vec Ideal S1x128 .f32) (x5 : Vec Ideal S16384x128 .bf16) (x6 : Vec Ideal S256x1 .f32) (x7 : Vec Ideal S4096x32 .bf16) (x8 : Vec Ideal S1x16384 .bf16) (x9 : Vec Ideal S4096x128 .bf16) : Vec Ideal S256x1 .i32 × Vec Ideal S256x1 .f32 :=
  (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) x0 x1 x2 x3 x4 x5 x6 x7 x8 x9, out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) x0 x1 x2 x3 x4 x5 x6 x7 x8 x9)

set_option maxHeartbeats 1000000 in
/-- The two numbers left for a row of the block. -/
theorem outs_apply (c : Dev nD) (t : Fin cfg1.N) (x0 x1 x2 : Vec Ideal S256x1024 .f32) (x3 : Vec Ideal S3072x128 .bf16) (x4 : Vec Ideal S1x128 .f32) (x5 : Vec Ideal S16384x128 .bf16) (x6 : Vec Ideal S256x1 .f32) (x7 : Vec Ideal S4096x32 .bf16) (x8 : Vec Ideal S1x16384 .bf16) (x9 : Vec Ideal S4096x128 .bf16)
    (hc : ∀ j : Fin 16384, ∃ g : Fin 128 → ℝ, ∀ h, x5 (ix2 j h) = g h)
    (h7 : ∀ (j : Fin 4096) (k : Fin 32), x7 (ix2 j k) = if j.val / 128 = k.val then (1 : EReal) else 0)
    (h8 : ∀ j : Fin 16384, x8 (ix2 0 j) = (((j.val / 128 : ℕ) : ℝ) : EReal))
    (h9 : ∀ (j : Fin 4096) (l : Fin 128), x9 (ix2 j l) = if j.val % 128 = l.val then (1 : EReal) else 0) (r : Fin 256)
    (e : Fin 128 → EReal) (he : e = Spec.unit (Spec.joint (fun k => x0 (ix2 r k)) (fun k => x1 (ix2 r k)) (fun k => x2 (ix2 r k))
      (fun h k => x3 (ix2 k h)) (fun h => x4 (ix2 0 h)))) :
    (outs c t x0 x1 x2 x3 x4 x5 x6 x7 x8 x9).1 (ix2 r 0) = Spec.sel e (fun j h => x5 (ix2 j h)) (x6 (ix2 r 0))
    ∧ (outs c t x0 x1 x2 x3 x4 x5 x6 x7 x8 x9).2 (ix2 r 0) = Spec.logShare e (fun j h => x5 (ix2 j h)) (x6 (ix2 r 0)) := by
  unfold outs
  unfold out1_A_10 out1_A_11
  rw [View.read_writes_eq_canon _ _ _ (fun y => cover1_A_10 _ _ _ _ _ _ _ _ _ _ _ _ _ _ _ _ _ _ _ _ _ _ _ _ _ _ _ _ _ _ _ _ _ _ _ _ _ _ y), View.read_writes_eq_canon _ _ _ (fun y => cover1_A_11 _ _ _ _ _ _ _ _ _ _ _ _ _ _ _ _ _ _ _ _ _ _ _ _ _ _ _ _ _ _ _ _ _ _ _ _ _ _ y)]
  unfold kernelRun1_A
  dsimp only
  sl_unfold_words
  simp only [View.readAt_eq_ld]
  simp only [(hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread]
  have z : ∀ a : Fin 2, (![0, 0] : Fin 2 → ℕ) a = 0 := by decide
  simp only [View.ld_unit_lit (S := S256x1024) (off := ![0, 0]) inb_S256x1024_S256x1024_0_0 x0 z, View.ld_unit_lit (S := S256x1024) (off := ![0, 0]) inb_S256x1024_S256x1024_0_0 x1 z, View.ld_unit_lit (S := S256x1024) (off := ![0, 0]) inb_S256x1024_S256x1024_0_0 x2 z, View.ld_unit_lit (S := S3072x128) (off := ![0, 0]) inb_S3072x128_S3072x128_0_0 x3 z, View.ld_unit_lit (S := S1x128) (off := ![0, 0]) inb_S1x128_S1x128_0_0 x4 z, View.ld_unit_lit (S := S256x1) (off := ![0, 0]) inb_S256x1_S256x1_0_0 x6 z, View.ld_unit_lit (S := S4096x32) (off := ![0, 0]) inb_S4096x32_S4096x32_0_0 x7 z, View.ld_unit_lit (S := S4096x128) (off := ![0, 0]) inb_S4096x128_S4096x128_0_0 x9 z]
  rw [View.canon_cons_unit_lit _ _ _ z, View.canon_cons_unit_lit _ _ _ z]
  generalize e0 : View.ld x5 (Rect.unit ![0, 0] ![4096, 128] inb_S16384x128_S4096x128_0_0) = y0
  generalize e1 : View.ld x5 (Rect.unit ![4096, 0] ![4096, 128] inb_S16384x128_S4096x128_4096_0) = y1
  generalize e2 : View.ld x5 (Rect.unit ![8192, 0] ![4096, 128] inb_S16384x128_S4096x128_8192_0) = y2
  generalize e3 : View.ld x5 (Rect.unit ![12288, 0] ![4096, 128] inb_S16384x128_S4096x128_12288_0) = y3
  have hy : ∀ (o : ℕ) (inb : ∀ a, (![o, 0] : Fin 2 → ℕ) a + (![4096, 128] : Fin 2 → ℕ) a ≤ S16384x128.size a) (ho : o + 4096 ≤ 16384)
      (y : Vec Ideal S4096x128 .bf16), View.ld x5 (Rect.unit ![o, 0] ![4096, 128] inb) = y →
      ∀ (j : Fin 4096) (h : Fin 128), y (ix2 j h) = x5 (ix2 ⟨o + j.val, by omega⟩ h) := by
    rintro o inb ho y rfl j h
    refine View.ld_unit_apply_of _ _ _ _ _ _ fun a => ?_
    match a with
    | ⟨0, _⟩ => rfl
    | ⟨1, _⟩ => exact (Nat.zero_add _).symm
  replace e0 := hy 0 _ (by omega) _ e0
  replace e1 := hy 4096 _ (by omega) _ e1
  replace e2 := hy 8192 _ (by omega) _ e2
  replace e3 := hy 12288 _ (by omega) _ e3
  have h28 : ∀ r h, k1_pay3 x3 x0 x1 x2 x4 (ix2 r h) = Spec.unit (Spec.joint (fun k => x0 (ix2 r k)) (fun k => x1 (ix2 r k)) (fun k => x2 (ix2 r k))
      (fun h k => x3 (ix2 k h)) (fun h => x4 (ix2 0 h))) h := fun r h => pay3_apply x3 x0 x1 x2 x4 r h
  have h35 : ∀ r j, k1_pay5 x3 x0 x1 x2 x4 y0 (ix2 r j) = Ideal.exp (∑ h, k1_pay3 x3 x0 x1 x2 x4 (ix2 r h) * y0 (ix2 j h)) := fun r j => pay5_apply x3 x0 x1 x2 x4 y0 r j
  generalize k1_pay5 x3 x0 x1 x2 x4 y0 = v35 at h35 ⊢
  generalize k1_pay3 x3 x0 x1 x2 x4 = v28 at h28 h35 ⊢
  -- the weights of every row
  obtain ⟨E, hE⟩ : ∃ E : Fin 256 → Fin 128 → EReal, E = fun r => Spec.unit (Spec.joint (fun k => x0 (ix2 r k)) (fun k => x1 (ix2 r k)) (fun k => x2 (ix2 r k))
      (fun h k => x3 (ix2 k h)) (fun h => x4 (ix2 0 h))) := ⟨_, rfl⟩
  have hEr : ∀ r, ∃ g : Fin 128 → ℝ, ∀ h, E r h = g h := fun r => by rw [hE]; exact Spec.unit_real _
  replace h28 : ∀ r h, v28 (ix2 r h) = E r h := by rw [hE]; exact h28
  replace he : e = E r := by rw [hE]; exact he
  subst he
  obtain ⟨C, hC⟩ : ∃ C : Fin 16384 → Fin 128 → EReal, C = fun j h => x5 (ix2 j h) := ⟨_, rfl⟩
  have hCr : ∀ j, ∃ g : Fin 128 → ℝ, ∀ h, C j h = g h := fun j => by rw [hC]; exact hc j
  rw [← hC]
  have hw : ∀ (o : ℕ) (ho : o + 4096 ≤ 16384) (y : Vec Ideal S4096x128 .bf16), (∀ (j : Fin 4096) (h : Fin 128), y (ix2 j h) = x5 (ix2 ⟨o + j.val, by omega⟩ h)) →
      ∀ (r : Fin 256) (j : Fin 4096), Ideal.exp (∑ h, v28 (ix2 r h) * y (ix2 j h)) = (Spec.weight (E r) C (o + j.val) : EReal) := by
    intro o ho y hy r j
    rw [← Spec.exp_logit (hEr r) hCr ⟨o + j.val, by omega⟩]
    unfold Spec.logit
    refine congrArg Ideal.exp (Finset.sum_congr rfl fun h _ => ?_)
    rw [h28, hy, hC]
  have w0 := hw 0 (by omega) y0 e0
  have w1 := hw 4096 (by omega) y1 e1
  have w2 := hw 8192 (by omega) y2 e2
  have w3 := hw 12288 (by omega) y3 e3
  have hs := scratch_apply (fun r n => (Spec.weight (E r) C n : EReal)) (k1_pay6 v35) (k1_pay8 v28 y1) (k1_pay10 v28 y2) (k1_pay12 v28 y3)
    (fun r j => by rw [pay6_apply, h35, w0]) (fun r j => by rw [pay8_apply, w1]) (fun r j => by rw [pay10_apply, w2]) (fun r j => by rw [pay12_apply, w3])
  have hsr : ∀ (o m : ℕ) (inb : ∀ a, (![0, o] : Fin 2 → ℕ) a + (![256, m] : Fin 2 → ℕ) a ≤ S256x16384.size a) (x : (Rect.unit (s := S256x16384) ![0, o] ![256, m] inb).shape.Idx) (j : ℕ) (h0 : (x 0).val = r.val) (h1 : o + (x 1).val = j), _ :=
    fun o m inb x j h0 h1 => (hs (Rect.unit (s := S256x16384) ![0, o] ![256, m] inb).toLoadRect x).trans (b := _) (c := (Spec.weight (E r) C j : EReal)) (by
      have a0 : ((Rect.unit (s := S256x16384) ![0, o] ![256, m] inb).idx x 0) = r := Fin.ext ((Rect.idx_unit_val _ _ _ x 0).trans ((Nat.zero_add _).trans h0))
      have a1 : ((Rect.unit (s := S256x16384) ![0, o] ![256, m] inb).idx x 1).val = j := (Rect.idx_unit_val _ _ _ x 1).trans h1
      show (Spec.weight (E ((Rect.unit (s := S256x16384) ![0, o] ![256, m] inb).idx x 0)) C ((Rect.unit (s := S256x16384) ![0, o] ![256, m] inb).idx x 1).val : EReal) = _
      rw [a0, a1])
  have hl : ∀ (b : ℕ) (inb : ∀ a, (![0, 4096 * b] : Fin 2 → ℕ) a + (![1, 4096] : Fin 2 → ℕ) a ≤ S1x16384.size a) (hb : b < 4) (j : Fin 4096),
      View.ld x8 (Rect.unit ![0, 4096 * b] ![1, 4096] inb) (ix2 0 j) = ((((4096 * b + j.val) / 128 : ℕ) : ℝ) : EReal) := by
    intro b inb hb j
    refine (View.ld_unit_apply_of _ _ _ _ _ (ix2 0 ⟨4096 * b + j.val, by omega⟩) fun a => ?_).trans (h8 _)
    match a with
    | ⟨0, _⟩ => rfl
    | ⟨1, _⟩ => rfl
  refine row_result (x := Spec.weight (E r) C) (Spec.weight_pos _ _) r (v28 := v28) (v30 := k1_pay4 x7) (v35 := v35) (v40 := y1) (v49 := y2) (v58 := y3)
    (fun j k => (pay4_apply x7 _).trans (h7 j k)) (fun j => (h35 r j).trans ((w0 r j).trans (by rw [Nat.zero_add]))) (w1 r) (w2 r) (w3 r) h9
    (hl 0 _ (by norm_num)) (hl 1 _ (by norm_num)) (hl 2 _ (by norm_num)) (hl 3 _ (by norm_num))
    (fun j => hsr 0 4096 _ (ix2 r j) (4096 * 0 + j.val) rfl (by simp)) (fun j => hsr 4096 4096 _ (ix2 r j) (4096 * 1 + j.val) rfl rfl)
    (fun j => hsr 8192 4096 _ (ix2 r j) (4096 * 2 + j.val) rfl rfl) (fun j => hsr 12288 4096 _ (ix2 r j) (4096 * 3 + j.val) rfl rfl)
    (hsr 0 1 _ (ix2 r 0) 0 rfl rfl) rfl rfl rfl rfl rfl rfl

end Cert.Proof.Kern
-- ==== Proof.Region0.lean ====
/-
  What the embedding kernel leaves in the candidates' array, over extended reals: row by row, the candidate's inputs times
  the weights plus the bias, divided by its length.
-/
module

public import proofs.«01_k».proof.Proof.Gen.KernelIdeal.Frame
public import proofs.«01_k».proof.Proof.Region1
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Proof.Kern

open Idealize Idealize.ShloMosaic Idealize.ShloMosaic.Pipeline Idealize.ShloMosaic.TcCoe Idealize.SL.Sem
open Cert.KernelIdeal Cert.KernelIdeal.Gen
open Cert.Proof.Sampling

/-- The embedding of a candidate of the block. -/
theorem pay1_apply (v0 : Vec Ideal S4096x1024 .f32) (v2 : Vec Ideal S1024x128 .f32) (v6 : Vec Ideal S1x128 .f32) (r : Fin 4096) (h : Fin 128) :
    k0_pay1 v0 v2 v6 (ix2 r h) = Spec.unit (Spec.cand (fun k => v0 (ix2 r k)) (fun h k => v2 (ix2 k h)) (fun h => v6 (ix2 0 h))) h := by
  pointwise [k0_pay1]
  rfl

/-- What a grid point leaves for a candidate of its block. -/
theorem out0_apply (x0 : Vec Ideal S4096x1024 .f32) (x1 : Vec Ideal S1024x128 .f32) (x2 : Vec Ideal S1x128 .f32) (r : Fin 4096) (h : Fin 128) :
    out0_3 x0 x1 x2 (ix2 r h) = Spec.unit (Spec.cand (fun k => x0 (ix2 r k)) (fun h k => x1 (ix2 k h)) (fun h => x2 (ix2 0 h))) h := by
  have z : ∀ a : Fin 2, (![0, 0] : Fin 2 → ℕ) a = 0 := by decide
  unfold out0_3
  rw [View.canon_cons_unit_lit _ _ _ z, View.ld_unit_lit (S := S4096x1024) (off := ![0, 0]) inb_S4096x1024_S4096x1024_0_0 x0 z,
    View.ld_unit_lit (S := S1024x128) (off := ![0, 0]) inb_S1024x128_S1024x128_0_0 x1 z,
    View.ld_unit_lit (S := S1x128) (off := ![0, 0]) inb_S1x128_S1x128_0_0 x2 z]
  exact pay1_apply x0 x1 x2 r h

variable (V : (c : Dev nD) → (b : Ref sig .tc) → Buf (Elt Ideal) ((c : Thread nD τ).loc b))

theorem index0_0 : ∀ t : Fin cfg0.N, win0_0.index t = ![t.val, 0] := by decide +kernel
theorem index0_1 : ∀ t : Fin cfg0.N, win0_1.index t = ![0, 0] := by decide +kernel
theorem index0_2 : ∀ t : Fin cfg0.N, win0_2.index t = ![0, 0] := by decide +kernel
theorem index0_3 : ∀ t : Fin cfg0.N, win0_3.index t = ![t.val, 0] := by decide +kernel

/-- A row of a block of candidate inputs is a row of the whole array. -/
theorem blk0_0 (c : Dev nD) (t : Fin cfg0.N) (r : Fin 4096) (k : Fin 1024) (j : Fin 16384) (hj : j.val = t.val * 4096 + r.val) :
    (iblk0 V c 0 t : Vec Ideal S4096x1024 .f32) (ix2 r k) = (V c main_arg3 : Vec Ideal S16384x1024 .f32) (ix2 j k) := by
  refine congrArg (V c main_arg3 : Vec Ideal S16384x1024 .f32) ?_
  blk_ext [index0_0]

/-- The weights' block is the whole array. -/
theorem blk0_1 (c : Dev nD) (t : Fin cfg0.N) (k : Fin 1024) (h : Fin 128) :
    (iblk0 V c 1 t : Vec Ideal S1024x128 .f32) (ix2 k h) = (V c main_v0 : Vec Ideal S1024x128 .f32) (ix2 k h) := by
  refine congrArg (V c main_v0 : Vec Ideal S1024x128 .f32) ?_
  blk_ext [index0_1]

/-- The bias's block is the whole array. -/
theorem blk0_2 (c : Dev nD) (t : Fin cfg0.N) (h : Fin 128) :
    (iblk0 V c 2 t : Vec Ideal S1x128 .f32) (ix2 0 h) = (V c main_v1 : Vec Ideal S1x128 .f32) (ix2 0 h) := by
  refine congrArg (V c main_v1 : Vec Ideal S1x128 .f32) ?_
  blk_ext [index0_2]

/-- The candidates' array after the embedding kernel. -/
theorem remb_arr (c : Dev nD) (j : Fin 16384) (h : Fin 128) :
    ((dat0 V c).arrAt 3 cfg0.N : Vec Ideal S16384x128 .bf16) (ix2 j h)
      = Spec.unit (Spec.cand (fun k => (V c main_arg3 : Vec Ideal S16384x1024 .f32) (ix2 j k))
          (fun h k => (V c main_v0 : Vec Ideal S1024x128 .f32) (ix2 k h)) (fun h => (V c main_v1 : Vec Ideal S1x128 .f32) (ix2 0 h))) h := by
  have key := (dat0 V c).arrAt_eq_of_covers 3 (fun i : S16384x128.Idx =>
    Spec.unit (Spec.cand (fun k => (V c main_arg3 : Vec Ideal S16384x1024 .f32) (ix2 (i 0) k))
      (fun h k => (V c main_v0 : Vec Ideal S1024x128 .f32) (ix2 k h)) (fun h => (V c main_v1 : Vec Ideal S1x128 .f32) (ix2 0 h))) (i 1))
    (by decide +kernel) fun t _ y => by
      blk_simp
      rw [after0_3]
      refine (congrArg (out0_3 (iblk0 V c 0 t) (iblk0 V c 1 t) (iblk0 V c 2 t)) (idx2_eta (n := 4096) (m := 128) y)).trans ((out0_apply _ _ _ _ _).trans ?_)
      have e1 : ((win0_3.blk t).view.emb y 1 : Fin 128) = y 1 := by
        refine Fin.ext ?_
        blk_simp [index0_3]
      have e0 : ((win0_3.blk t).view.emb y 0 : Fin 16384).val = t.val * 4096 + (y 0 : Fin 4096).val := by
        blk_simp [index0_3]
      have a0 : (fun k => (iblk0 V c 0 t : Vec Ideal S4096x1024 .f32) (ix2 (y 0 : Fin 4096) k))
          = fun k => (V c main_arg3 : Vec Ideal S16384x1024 .f32) (ix2 ((win0_3.blk t).view.emb y 0 : Fin 16384) k) :=
        funext fun k => blk0_0 V c t (y 0) k _ e0
      have a1 : (fun (h : Fin 128) (k : Fin 1024) => (iblk0 V c 1 t : Vec Ideal S1024x128 .f32) (ix2 k h))
          = fun h k => (V c main_v0 : Vec Ideal S1024x128 .f32) (ix2 k h) := funext fun h => funext fun k => blk0_1 V c t k h
      have a2 : (fun h : Fin 128 => (iblk0 V c 2 t : Vec Ideal S1x128 .f32) (ix2 0 h))
          = fun h => (V c main_v1 : Vec Ideal S1x128 .f32) (ix2 0 h) := funext fun h => blk0_2 V c t h
      rw [a0, a1, a2]
      exact congrArg _ e1.symm
  exact congrFun key (ix2 j h)

end Cert.Proof.Kern
-- ==== Proof.Rows.lean ====
/-
  The rows both programs embed, from the launch arrays: a request's three rows joined, and a candidate's row.
-/
module

public import proofs.«01_k».proof.Proof.Spec
public import Idealize.ShloMosaic.Lib.Pointwise

@[expose] public section

noncomputable section

namespace Cert.Proof.Spec

open Finset Idealize Idealize.ShloMosaic
open Cert.Proof.Sampling

/-- An array of extended reals of rank 2. -/
abbrev Mat (n m : ℕ) := (⟨2, ![n, m]⟩ : Shape).Idx → EReal
/-- An array of extended reals of rank 1. -/
abbrev Vec (n : ℕ) := (⟨1, ![n]⟩ : Shape).Idx → EReal

/-- Request `r`'s embedding. -/
def emb (a0 a1 a2 : Mat 4096 1024) (w : Mat 128 3072) (b : Vec 128) (r : Fin 4096) : Fin 128 → EReal :=
  unit (joint (fun k => a0 (ix2 r k)) (fun k => a1 (ix2 r k)) (fun k => a2 (ix2 r k)) (fun h k => w (ix2 h k)) (fun h => b (ix1 h)))

/-- Candidate `j`'s embedding. -/
def cnd (a : Mat 16384 1024) (w : Mat 128 1024) (b : Vec 128) (j : Fin 16384) : Fin 128 → EReal :=
  unit (cand (fun k => a (ix2 j k)) (fun h k => w (ix2 h k)) (fun h => b (ix1 h)))

theorem emb_real (a0 a1 a2 : Mat 4096 1024) (w : Mat 128 3072) (b : Vec 128) (r : Fin 4096) :
    ∃ g : Fin 128 → ℝ, ∀ h, emb a0 a1 a2 w b r h = g h := unit_real _

theorem cnd_real (a : Mat 16384 1024) (w : Mat 128 1024) (b : Vec 128) (j : Fin 16384) :
    ∃ g : Fin 128 → ℝ, ∀ h, cnd a w b j h = g h := unit_real _

/-- A sum over the joined row is the sum of the sums over its three parts. -/
theorem sum_joined (f : Fin 3072 → EReal) :
    ∑ x, f x = (∑ k : Fin 1024, f ⟨k.val, by omega⟩) + (∑ k : Fin 1024, f ⟨1024 + k.val, by omega⟩)
      + (∑ k : Fin 1024, f ⟨2048 + k.val, by omega⟩) := by
  have e1 := Fin.sum_univ_add (a := 1024 + 1024) (b := 1024) f
  have e2 := Fin.sum_univ_add (a := 1024) (b := 1024) fun i => f (Fin.castAdd 1024 i)
  exact e1.trans (congrArg (· + _) e2)

end Cert.Proof.Spec
-- ==== Proof.HostValue.lean ====
/-
  What the two kernels find in the buffers they read, over extended reals, at an index: the host's tables, the weights and
  biases laid out for them, the arguments as launched, and the candidates' embeddings the first kernel left.
-/
module

public import proofs.«01_k».proof.Proof.HostTables
public import proofs.«01_k».proof.Proof.Region0
public import proofs.«01_k».proof.Proof.Rows

@[expose] public section

set_option maxRecDepth 16384

noncomputable section

namespace Cert.Proof.Kern

open Idealize Idealize.ShloMosaic Idealize.ShloMosaic.Pipeline Idealize.ShloMosaic.TcCoe Idealize.ShloMosaic.StableHlo Idealize.SL.Sem
open Cert.KernelIdeal Cert.KernelIdeal.Gen
open Cert.Proof.Sampling

variable {F : FTy → Type} [FloatOps F]

/-! ## What each list of host operations leaves -/

/-- Weights transposed. -/
def weights4 (w : FVec F S128x3072 .f32) : FVec F S3072x128 .bf16 :=
  truncf .bf16 (transpose S3072x128 [1, 0] w transposes_S128x3072_S3072x128_1_0) bitsLt_bf16_f32
/-- Weights transposed. -/
def weights6 (w : FVec F S128x1024 .f32) : FVec F S1024x128 .f32 := transpose S1024x128 [1, 0] w transposes_S128x1024_S1024x128_1_0
/-- A bias as a row. -/
def biasRow (b : FVec F S128 .f32) : FVec F S1x128 .f32 := shapeCast S1x128 b shapeCasts_S128_S1x128

theorem weights4_apply (w : FVec Ideal S128x3072 .f32) (k : Fin 3072) (h : Fin 128) : weights4 w (ix2 k h) = w (ix2 h k) := by
  pointwise [weights4]
theorem weights6_apply (w : FVec Ideal S128x1024 .f32) (k : Fin 1024) (h : Fin 128) : weights6 w (ix2 k h) = w (ix2 h k) := by
  pointwise [weights6]
theorem biasRow_apply (b : FVec Ideal S128 .f32) (h : Fin 128) : biasRow b (ix2 0 h) = b (ix1 h) := by
  pointwise [biasRow]

theorem ops0_v0 (V : Valuation τ sig (Elt F)) : after hostOps0 V (main_v0 : DevRef τ sig) = weights6 (V (main_arg6 : DevRef τ sig)) := by
  after_results
  rfl
theorem ops0_v1 (V : Valuation τ sig (Elt F)) : after hostOps0 V (main_v1 : DevRef τ sig) = biasRow (V (main_arg7 : DevRef τ sig)) := by
  after_results
  rfl
theorem ops1_v4 (V : Valuation τ sig (Elt F)) : after hostOps1 V (main_v4 : DevRef τ sig) = weights4 (V (main_arg4 : DevRef τ sig)) := by
  after_results
  rfl
theorem ops1_v5 (V : Valuation τ sig (Elt F)) : after hostOps1 V (main_v5 : DevRef τ sig) = biasRow (V (main_arg5 : DevRef τ sig)) := by
  after_results
  rfl
theorem ops1_v6 (V : Valuation τ sig (Elt F)) : after hostOps1 V (main_v6 : DevRef τ sig) = iotaInDim S4096 32 0 := by
  after_results
theorem ops1_v7 (V : Valuation τ sig (Elt F)) : after hostOps1 V (main_v7 : DevRef τ sig) = places := by
  after_results
  rfl
theorem ops1_c (V : Valuation τ sig (Elt F)) : after hostOps1 V (main_c : DevRef τ sig) = constantI S_ 32 128#32 := by
  after_results
theorem ops1_2_v14 (V : Valuation τ sig (Elt F)) : after hostOps1_2 V (main_v14 : DevRef τ sig) = bind (V (main_v8 : DevRef τ sig)) := by
  after_results
  rfl
theorem ops1_2_v15 (V : Valuation τ sig (Elt F)) : after hostOps1_2 V (main_v15 : DevRef τ sig)
    = broadcastInDim S4096x1 ![0] bcast_S4096_S4096x1_0 (V (main_v6 : DevRef τ sig) : IVec S4096 32) := by
  after_results
theorem ops1_2_c (V : Valuation τ sig (Elt F)) : after hostOps1_2 V (main_c_0 : DevRef τ sig) = constantI S_ 32 128#32 := by
  after_results
theorem ops1_4_v22 (V : Valuation τ sig (Elt F)) : after hostOps1_4 V (main_v22 : DevRef τ sig) = fold (V (main_v16 : DevRef τ sig)) := by
  after_results
  rfl
theorem ops1_4_v24 (V : Valuation τ sig (Elt F)) : after hostOps1_4 V (main_v24 : DevRef τ sig) = placesRow := by
  after_results
  rfl
theorem ops1_4_c (V : Valuation τ sig (Elt F)) : after hostOps1_4 V (main_c_1 : DevRef τ sig) = constantI S_ 32 128#32 := by
  after_results
theorem ops1_6_v26 (V : Valuation τ sig (Elt F)) : after hostOps1_6 V (main_v26 : DevRef τ sig)
    = sitofp .bf16 (V (main_v25 : DevRef τ sig) : IVec S1x16384 32) := by
  after_results
theorem ops2_v28 (V : Valuation τ sig (Elt F)) : after hostOps2 V (main_v28 : DevRef τ sig)
    = shapeCast S4096 (V (main_v27_0 : DevRef τ sig) : IVec S4096x1 32) shapeCasts_S4096x1_S4096 := by
  after_results
  rfl

/-! ## The buffers as the selecting kernel finds them -/

variable (m : (ℓ : Loc nD τ sig) → Buf (Elt Ideal) ℓ) (ρ : Dev nD → PrngReg)

/-- The contents of a core's buffer at launch. -/
abbrev at0 (c : Dev nD) (r : Ref sig .tc) : Buf (Elt Ideal) ((c : Thread nD τ).loc r) := m ((c : Thread nD τ).loc r)

theorem v9_bind (c : Dev nD) : W9 m ρ c (Proc.devRef .tc main_v14) = bind (F := Ideal) (quot S4096x1 bcast_S_S4096x1 places (constantI S_ 32 128#32)) := by
  rw [W9_of m ρ c main_v14 (by decide), W8_of m ρ c main_v14 (by decide), W7_of m ρ c main_v14 (by decide), W6_of m ρ c main_v14 (by decide)]
  refine (ops1_2_v14 (W4 m ρ c)).trans (congrArg bind ?_)
  refine (ops1_1 (W3 m ρ c)).trans ?_
  exact congrArg₂ (quot S4096x1 bcast_S_S4096x1) (ops1_v7 (W2 m ρ c)) (ops1_c (W2 m ρ c))

theorem v9_fold (c : Dev nD) : W9 m ρ c (Proc.devRef .tc main_v22) = fold (F := Ideal) (rest places (constantI S_ 32 128#32)) := by
  rw [W9_of m ρ c main_v22 (by decide), W8_of m ρ c main_v22 (by decide)]
  refine (ops1_4_v22 (W6 m ρ c)).trans (congrArg fold ?_)
  refine (ops1_3 (W5 m ρ c)).trans ?_
  refine congrArg₂ rest ((ops1_2_v15 (W4 m ρ c)).trans ?_) (ops1_2_c (W4 m ρ c))
  exact congrArg (broadcastInDim S4096x1 ![0] bcast_S4096_S4096x1_0) ((W4_of m ρ c main_v6 (by decide)).trans (ops1_v6 (W2 m ρ c)))

theorem v9_chunk (c : Dev nD) : W9 m ρ c (Proc.devRef .tc main_v26)
    = sitofp (F := Ideal) .bf16 (quot S1x16384 bcast_S_S1x16384 placesRow (constantI S_ 32 128#32)) := by
  refine (ops1_6_v26 (W8 m ρ c)).trans (congrArg (sitofp .bf16) ?_)
  refine (ops1_5 (W7 m ρ c)).trans ?_
  exact congrArg₂ (quot S1x16384 bcast_S_S1x16384) (ops1_4_v24 (W6 m ρ c)) (ops1_4_c (W6 m ρ c))

/-- A buffer the lists between the kernels leave alone after the first of them. -/
theorem v9_of_w3 (c : Dev nD) (r : Ref sig .tc) (h1 : r ∉ hostOps1_1_W) (h2 : r ∉ hostOps1_2_W) (h3 : r ∉ hostOps1_3_W) (h4 : r ∉ hostOps1_4_W)
    (h5 : r ∉ hostOps1_5_W) (h6 : r ∉ hostOps1_6_W) : W9 m ρ c (Proc.devRef .tc r) = W3 m ρ c (Proc.devRef .tc r) := by
  rw [W9_of m ρ c r h6, W8_of m ρ c r h5, W7_of m ρ c r h4, W6_of m ρ c r h3, W5_of m ρ c r h2, W4_of m ρ c r h1]

theorem v9_weights (c : Dev nD) : W9 m ρ c (Proc.devRef .tc main_v4) = weights4 (F := Ideal) (at0 m c main_arg4) := by
  rw [v9_of_w3 m ρ c main_v4 (by decide) (by decide) (by decide) (by decide) (by decide) (by decide)]
  exact (ops1_v4 (W2 m ρ c)).trans (congrArg weights4 (W2_args m ρ c main_arg4 (by decide)))

theorem v9_bias (c : Dev nD) : W9 m ρ c (Proc.devRef .tc main_v5) = biasRow (F := Ideal) (at0 m c main_arg5) := by
  rw [v9_of_w3 m ρ c main_v5 (by decide) (by decide) (by decide) (by decide) (by decide) (by decide)]
  exact (ops1_v5 (W2 m ρ c)).trans (congrArg biasRow (W2_args m ρ c main_arg5 (by decide)))

/-- The table of chunks at an index. -/
theorem v9_bind_apply (c : Dev nD) (r : Fin 4096) (k : Fin 32) :
    (W9 m ρ c (Proc.devRef .tc main_v14) : FVec Ideal S4096x32 .bf16) (ix2 r k) = (if r.val / 128 = k.val then 1 else 0 : EReal) := by
  rw [v9_bind]
  exact bind_apply _ _ (by omega) r k (quot_apply r.val (by omega) places r (places_apply r))

/-- The table of places within a chunk at an index. -/
theorem v9_fold_apply (c : Dev nD) (r : Fin 4096) (k : Fin 128) :
    (W9 m ρ c (Proc.devRef .tc main_v22) : FVec Ideal S4096x128 .bf16) (ix2 r k) = (if r.val % 128 = k.val then 1 else 0 : EReal) := by
  rw [v9_fold]
  exact fold_apply _ _ (by omega) r k (rest_apply r.val (by omega) places r (places_apply r))

/-- The chunk's number at a place. -/
theorem v9_chunk_apply (c : Dev nD) (j : Fin 16384) :
    (W9 m ρ c (Proc.devRef .tc main_v26) : FVec Ideal S1x16384 .bf16) (ix2 0 j) = (((j.val / 128 : ℕ) : ℝ) : EReal) := by
  rw [v9_chunk]
  have e := quot_apply' j.val j.isLt placesRow j (placesRow_apply j)
  generalize quot S1x16384 bcast_S_S1x16384 placesRow (constantI S_ 32 128#32) = q at e
  show (((q (ix2 0 j)).toInt : ℝ) : EReal) = _
  rw [e, toInt_small (by omega), Int.cast_natCast]

/-- A candidate's row as the first kernel left it. -/
theorem v9_cand_apply (c : Dev nD) (j : Fin 16384) (h : Fin 128) :
    (W9 m ρ c (Proc.devRef .tc main_v2) : FVec Ideal S16384x128 .bf16) (ix2 j h)
      = Spec.cnd (at0 m c main_arg3) (at0 m c main_arg6) (at0 m c main_arg7) j h := by
  have e : W9 m ρ c (Proc.devRef .tc main_v2) = (dat0 (V1 m ρ) c).arrAt 3 cfg0.N := by
    rw [v9_of_w3 m ρ c main_v2 (by decide) (by decide) (by decide) (by decide) (by decide) (by decide), W3_of m ρ c main_v2 (by decide)]
    exact W2_arr m ρ c 3
  rw [e]
  refine (remb_arr (V1 m ρ) c j h).trans ?_
  have a3 : V1 m ρ c main_arg3 = at0 m c main_arg3 := W1_args m ρ c main_arg3 (by decide)
  have a6 : V1 m ρ c main_v0 = weights6 (F := Ideal) (at0 m c main_arg6) := ops0_v0 (W0 m ρ c)
  have a7 : V1 m ρ c main_v1 = biasRow (F := Ideal) (at0 m c main_arg7) := ops0_v1 (W0 m ρ c)
  rw [a3, a6, a7]
  unfold Spec.cnd
  simp only [weights6_apply, biasRow_apply]

end Cert.Proof.Kern
-- ==== Proof.Region1Arr.lean ====
/-
  What the selecting kernel leaves in its two result arrays, over extended reals: for each row the selected place and the
  logarithm of the share there, as functions of the arguments' contents at launch.
-/
module

public import proofs.«01_k».proof.Proof.HostValue
public import Idealize.ShloMosaic.Lib.Pipeline.ValueKit.Geometry

@[expose] public section

set_option maxRecDepth 16384

noncomputable section

namespace Cert.Proof.Kern

open Idealize Idealize.ShloMosaic Idealize.ShloMosaic.Pipeline Idealize.ShloMosaic.TcCoe Idealize.ShloMosaic.StableHlo Idealize.SL.Sem
open Cert.KernelIdeal Cert.KernelIdeal.Gen
open Cert.Proof.Sampling

theorem index1_0 : ∀ t : Fin cfg1.N, win1_0.index t = ![t.val, 0] := by decide +kernel
theorem index1_1 : ∀ t : Fin cfg1.N, win1_1.index t = ![t.val, 0] := by decide +kernel
theorem index1_2 : ∀ t : Fin cfg1.N, win1_2.index t = ![t.val, 0] := by decide +kernel
theorem index1_3 : ∀ t : Fin cfg1.N, win1_3.index t = ![0, 0] := by decide +kernel
theorem index1_4 : ∀ t : Fin cfg1.N, win1_4.index t = ![0, 0] := by decide +kernel
theorem index1_5 : ∀ t : Fin cfg1.N, win1_5.index t = ![0, 0] := by decide +kernel
theorem index1_6 : ∀ t : Fin cfg1.N, win1_6.index t = ![t.val, 0] := by decide +kernel
theorem index1_7 : ∀ t : Fin cfg1.N, win1_7.index t = ![0, 0] := by decide +kernel
theorem index1_8 : ∀ t : Fin cfg1.N, win1_8.index t = ![0, 0] := by decide +kernel
theorem index1_9 : ∀ t : Fin cfg1.N, win1_9.index t = ![0, 0] := by decide +kernel
theorem index1_10 : ∀ t : Fin cfg1.N, win1_10.index t = ![t.val, 0] := by decide +kernel
theorem index1_11 : ∀ t : Fin cfg1.N, win1_11.index t = ![t.val, 0] := by decide +kernel

section Blocks

variable (V : (c : Dev nD) → (b : Ref sig .tc) → Buf (Elt Ideal) ((c : Thread nD τ).loc b)) (c : Dev nD) (t : Fin cfg1.N)

/-- A row of a block is a row of the whole array; the blocks of the tables and weights are the whole arrays. -/
theorem blk1_0 (r : Fin 256) (k : Fin 1024) (j : Fin 4096) (hj : j.val = t.val * 256 + r.val) :
    (iblk1 V c 0 t : Vec Ideal S256x1024 .f32) (ix2 r k) = (V c main_arg0 : Vec Ideal S4096x1024 .f32) (ix2 j k) := by
  refine congrArg (V c main_arg0 : Vec Ideal S4096x1024 .f32) ?_
  blk_ext [index1_0]
theorem blk1_1 (r : Fin 256) (k : Fin 1024) (j : Fin 4096) (hj : j.val = t.val * 256 + r.val) :
    (iblk1 V c 1 t : Vec Ideal S256x1024 .f32) (ix2 r k) = (V c main_arg1 : Vec Ideal S4096x1024 .f32) (ix2 j k) := by
  refine congrArg (V c main_arg1 : Vec Ideal S4096x1024 .f32) ?_
  blk_ext [index1_1]
theorem blk1_2 (r : Fin 256) (k : Fin 1024) (j : Fin 4096) (hj : j.val = t.val * 256 + r.val) :
    (iblk1 V c 2 t : Vec Ideal S256x1024 .f32) (ix2 r k) = (V c main_arg2 : Vec Ideal S4096x1024 .f32) (ix2 j k) := by
  refine congrArg (V c main_arg2 : Vec Ideal S4096x1024 .f32) ?_
  blk_ext [index1_2]
theorem blk1_3 (k : Fin 3072) (h : Fin 128) :
    (iblk1 V c 3 t : Vec Ideal S3072x128 .bf16) (ix2 k h) = (V c main_v4 : Vec Ideal S3072x128 .bf16) (ix2 k h) := by
  refine congrArg (V c main_v4 : Vec Ideal S3072x128 .bf16) ?_
  blk_ext [index1_3]
theorem blk1_4 (h : Fin 128) :
    (iblk1 V c 4 t : Vec Ideal S1x128 .f32) (ix2 0 h) = (V c main_v5 : Vec Ideal S1x128 .f32) (ix2 0 h) := by
  refine congrArg (V c main_v5 : Vec Ideal S1x128 .f32) ?_
  blk_ext [index1_4]
theorem blk1_5 (j : Fin 16384) (h : Fin 128) :
    (iblk1 V c 5 t : Vec Ideal S16384x128 .bf16) (ix2 j h) = (V c main_v2 : Vec Ideal S16384x128 .bf16) (ix2 j h) := by
  refine congrArg (V c main_v2 : Vec Ideal S16384x128 .bf16) ?_
  blk_ext [index1_5]
theorem blk1_6 (r : Fin 256) (j : Fin 4096) (hj : j.val = t.val * 256 + r.val) :
    (iblk1 V c 6 t : Vec Ideal S256x1 .f32) (ix2 r 0) = (V c main_arg8 : Vec Ideal S4096x1 .f32) (ix2 j 0) := by
  refine congrArg (V c main_arg8 : Vec Ideal S4096x1 .f32) ?_
  blk_ext [index1_6]
theorem blk1_7 (j : Fin 4096) (k : Fin 32) :
    (iblk1 V c 7 t : Vec Ideal S4096x32 .bf16) (ix2 j k) = (V c main_v14 : Vec Ideal S4096x32 .bf16) (ix2 j k) := by
  refine congrArg (V c main_v14 : Vec Ideal S4096x32 .bf16) ?_
  blk_ext [index1_7]
theorem blk1_8 (j : Fin 16384) :
    (iblk1 V c 8 t : Vec Ideal S1x16384 .bf16) (ix2 0 j) = (V c main_v26 : Vec Ideal S1x16384 .bf16) (ix2 0 j) := by
  refine congrArg (V c main_v26 : Vec Ideal S1x16384 .bf16) ?_
  blk_ext [index1_8]
theorem blk1_9 (j : Fin 4096) (l : Fin 128) :
    (iblk1 V c 9 t : Vec Ideal S4096x128 .bf16) (ix2 j l) = (V c main_v22 : Vec Ideal S4096x128 .bf16) (ix2 j l) := by
  refine congrArg (V c main_v22 : Vec Ideal S4096x128 .bf16) ?_
  blk_ext [index1_9]

/-- The blocks a grid point leaves, from the blocks it reads. -/
theorem outsAt1_eq : outsAt1 V c t = outs c t (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) := by
  unfold outsAt1 outs
  rfl

end Blocks

variable (m : (ℓ : Loc nD τ sig) → Buf (Elt Ideal) ℓ) (ρ : Dev nD → PrngReg)

/-- A row's embedding, of the arguments at launch. -/
abbrev rowEmb (c : Dev nD) (r : Fin 4096) : Fin 128 → EReal :=
  Spec.emb (at0 m c main_arg0) (at0 m c main_arg1) (at0 m c main_arg2) (at0 m c main_arg4) (at0 m c main_arg5) r
/-- The candidates' embeddings, of the arguments at launch. -/
abbrev allCnd (c : Dev nD) : Fin 16384 → Fin 128 → EReal := Spec.cnd (at0 m c main_arg3) (at0 m c main_arg6) (at0 m c main_arg7)
/-- A row's bound at launch. -/
abbrev rowBound (c : Dev nD) (r : Fin 4096) : EReal := (at0 m c main_arg8 : Vec Ideal S4096x1 .f32) (ix2 r 0)

/-- What a grid point leaves for a row of its block. -/
theorem point_apply (c : Dev nD) (t : Fin cfg1.N) (r : Fin 256) (j : Fin 4096) (hj : j.val = t.val * 256 + r.val) :
    (outsAt1 (V9 m ρ) c t).1 (ix2 r 0) = Spec.sel (rowEmb m c j) (allCnd m c) (rowBound m c j)
    ∧ (outsAt1 (V9 m ρ) c t).2 (ix2 r 0) = Spec.logShare (rowEmb m c j) (allCnd m c) (rowBound m c j) := by
  have h5 : ∀ (j : Fin 16384) (h : Fin 128), (iblk1 (V9 m ρ) c 5 t : Vec Ideal S16384x128 .bf16) (ix2 j h) = allCnd m c j h :=
    fun j h => (blk1_5 (V9 m ρ) c t j h).trans (v9_cand_apply m ρ c j h)
  have h6 : (iblk1 (V9 m ρ) c 6 t : Vec Ideal S256x1 .f32) (ix2 r 0) = rowBound m c j :=
    (blk1_6 (V9 m ρ) c t r j hj).trans (congrFun (W9_args m ρ c main_arg8 (by decide)) (ix2 j 0))
  have key := outs_apply c t (iblk1 (V9 m ρ) c 0 t) (iblk1 (V9 m ρ) c 1 t) (iblk1 (V9 m ρ) c 2 t) (iblk1 (V9 m ρ) c 3 t) (iblk1 (V9 m ρ) c 4 t) (iblk1 (V9 m ρ) c 5 t)
    (iblk1 (V9 m ρ) c 6 t) (iblk1 (V9 m ρ) c 7 t) (iblk1 (V9 m ρ) c 8 t) (iblk1 (V9 m ρ) c 9 t)
    (fun j => by
      obtain ⟨g, hg⟩ := Spec.cnd_real (at0 m c main_arg3) (at0 m c main_arg6) (at0 m c main_arg7) j
      exact ⟨g, fun h => (h5 j h).trans (hg h)⟩)
    (fun j k => (blk1_7 (V9 m ρ) c t j k).trans (v9_bind_apply m ρ c j k))
    (fun j => (blk1_8 (V9 m ρ) c t j).trans (v9_chunk_apply m ρ c j))
    (fun j l => (blk1_9 (V9 m ρ) c t j l).trans (v9_fold_apply m ρ c j l)) r (rowEmb m c j) (by
      have e0 : ∀ k, (iblk1 (V9 m ρ) c 0 t : Vec Ideal S256x1024 .f32) (ix2 r k) = (at0 m c main_arg0 : Vec Ideal S4096x1024 .f32) (ix2 j k) :=
        fun k => (blk1_0 (V9 m ρ) c t r k j hj).trans (congrFun (W9_args m ρ c main_arg0 (by decide)) (ix2 j k))
      have e1 : ∀ k, (iblk1 (V9 m ρ) c 1 t : Vec Ideal S256x1024 .f32) (ix2 r k) = (at0 m c main_arg1 : Vec Ideal S4096x1024 .f32) (ix2 j k) :=
        fun k => (blk1_1 (V9 m ρ) c t r k j hj).trans (congrFun (W9_args m ρ c main_arg1 (by decide)) (ix2 j k))
      have e2 : ∀ k, (iblk1 (V9 m ρ) c 2 t : Vec Ideal S256x1024 .f32) (ix2 r k) = (at0 m c main_arg2 : Vec Ideal S4096x1024 .f32) (ix2 j k) :=
        fun k => (blk1_2 (V9 m ρ) c t r k j hj).trans (congrFun (W9_args m ρ c main_arg2 (by decide)) (ix2 j k))
      have e3 : ∀ (h : Fin 128) (k : Fin 3072), (iblk1 (V9 m ρ) c 3 t : Vec Ideal S3072x128 .bf16) (ix2 k h) = (at0 m c main_arg4 : Vec Ideal S128x3072 .f32) (ix2 h k) :=
        fun h k => (blk1_3 (V9 m ρ) c t k h).trans ((congrFun (v9_weights m ρ c) (ix2 k h)).trans (weights4_apply _ k h))
      have e4 : ∀ h : Fin 128, (iblk1 (V9 m ρ) c 4 t : Vec Ideal S1x128 .f32) (ix2 0 h) = (at0 m c main_arg5 : Vec Ideal S128 .f32) (ix1 h) :=
        fun h => (blk1_4 (V9 m ρ) c t h).trans ((congrFun (v9_bias m ρ c) (ix2 0 h)).trans (biasRow_apply _ h))
      rw [funext e0, funext e1, funext e2, funext fun h => funext (e3 h), funext e4]
      rfl)
  rw [outsAt1_eq]
  rw [h6, funext fun j => funext (h5 j)] at key
  exact key

/-- The array of selected places after the selecting kernel. -/
theorem sel_arr (c : Dev nD) (j : Fin 4096) :
    ((dat1 (V9 m ρ) c).arrAt 10 cfg1.N : Vec Ideal S4096x1 .i32) (ix2 j 0) = Spec.sel (rowEmb m c j) (allCnd m c) (rowBound m c j) := by
  have key := (dat1 (V9 m ρ) c).arrAt_eq_of_covers 10 (fun i : S4096x1.Idx =>
    Spec.sel (rowEmb m c (i 0)) (allCnd m c) (rowBound m c (i 0)))
    (by decide +kernel) fun t _ y => by
      blk_simp
      rw [after1_10]
      have e0 : ((win1_10.blk t).view.emb y 0 : Fin 4096).val = t.val * 256 + (y 0 : Fin 256).val := by
        blk_simp [index1_10]
      have ey : y = ix2 (y 0 : Fin 256) (0 : Fin 1) := (idx2_eta (n := 256) (m := 1) y).trans (congrArg (ix2 (y 0 : Fin 256)) (Subsingleton.elim (α := Fin 1) _ _))
      exact (congrArg (outsAt1 (V9 m ρ) c t).1 ey).trans (point_apply m ρ c t _ _ e0).1
  exact congrFun key (ix2 j 0)

/-- The array of logarithms after the selecting kernel. -/
theorem log_arr (c : Dev nD) (j : Fin 4096) :
    ((dat1 (V9 m ρ) c).arrAt 11 cfg1.N : Vec Ideal S4096x1 .f32) (ix2 j 0) = Spec.logShare (rowEmb m c j) (allCnd m c) (rowBound m c j) := by
  have key := (dat1 (V9 m ρ) c).arrAt_eq_of_covers 11 (fun i : S4096x1.Idx =>
    Spec.logShare (rowEmb m c (i 0)) (allCnd m c) (rowBound m c (i 0)))
    (by decide +kernel) fun t _ y => by
      blk_simp
      rw [after1_11]
      have e0 : ((win1_11.blk t).view.emb y 0 : Fin 4096).val = t.val * 256 + (y 0 : Fin 256).val := by
        blk_simp [index1_11]
      have ey : y = ix2 (y 0 : Fin 256) (0 : Fin 1) := (idx2_eta (n := 256) (m := 1) y).trans (congrArg (ix2 (y 0 : Fin 256)) (Subsingleton.elim (α := Fin 1) _ _))
      exact (congrArg (outsAt1 (V9 m ρ) c t).2 ey).trans (point_apply m ρ c t _ _ e0).2
  exact congrFun key (ix2 j 0)

/-- The first result buffer at the end of the run, at a row. -/
theorem end_v28 (c : Dev nD) (j : Fin 4096) :
    (W11 m ρ c (Proc.devRef .tc main_v28) : Vec Ideal S4096 .i32) (ix1 j) = Spec.sel (rowEmb m c j) (allCnd m c) (rowBound m c j) := by
  have e : W11 m ρ c (Proc.devRef .tc main_v28) = shapeCast S4096 ((dat1 (V9 m ρ) c).arrAt 10 cfg1.N : Vec Ideal S4096x1 .i32) shapeCasts_S4096x1_S4096 :=
    (ops2_v28 (W10 m ρ c)).trans (congrArg (fun x : IVec S4096x1 32 => shapeCast S4096 x shapeCasts_S4096x1_S4096) (W10_arr m ρ c 10))
  rw [e]
  refine Eq.trans ?_ (sel_arr m ρ c j)
  generalize ((dat1 (V9 m ρ) c).arrAt 10 cfg1.N : Vec Ideal S4096x1 .i32) = x
  pointwise []

/-- The second result buffer at the end of the run, at a row. -/
theorem end_v27_1 (c : Dev nD) (j : Fin 4096) :
    (W11 m ρ c (Proc.devRef .tc main_v27_1) : Vec Ideal S4096x1 .f32) (ix2 j 0) = Spec.logShare (rowEmb m c j) (allCnd m c) (rowBound m c j) := by
  have e : W11 m ρ c (Proc.devRef .tc main_v27_1) = (dat1 (V9 m ρ) c).arrAt 11 cfg1.N :=
    (W11_of m ρ c main_v27_1 (by decide)).trans (W10_arr m ρ c 11)
  rw [e]
  exact log_arr m ρ c j

end Cert.Proof.Kern
-- ==== Proof.KernelRun.lean ====
/-
  The run of the kernel program to its last boundary: every execution ends with each unscoped TensorCore buffer at the
  contents that the chain of segments assigns it at the end (`W11`), so both results are read there and every argument is
  as it was at the launch.
-/
module

public import proofs.«01_k».proof.Proof.Gen.KernelIdeal.Frame

@[expose] public section

set_option maxRecDepth 16384

noncomputable section

namespace Cert.Proof.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, and each unscoped buffer of a TensorCore then holds the last boundary's contents. -/
theorem run_end : θ_run defs (onTc (τ := τ) (main (F := F))) ⟨m, fun _ => 0, ρ⟩ (fun r =>
      ∀ c : Dev nD, ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => h)

end Cert.Proof.Kern

end
-- ==== Proof.RefRun.lean ====
/-
  The run of the reference program (../ReferenceIdeal.lean) at any float values: @main is a straight line of host operations,
  cut here into five consecutive lists. Every execution ends with each buffer at the operations' results folded over the
  launch contents, which the staged functions below (`acc` and `unit`, `candAcc` and `candUnit`, `logits`, `expo` and `share`,
  `running`, `beyond` and `firstMax`, `places` and `chosen`) name at the buffers that a later list or the results read.
-/
module

public import proofs.«01_k».proof.Proof.Gen.ReferenceIdeal
public import Idealize.ShloMosaic.Lib.StableHlo.Run
public import Idealize.ShloMosaic.Lib.Pipeline.Frame
public import Idealize.ShloMosaic.PureOps.Ideal

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The stages -/

/-- The joined rows times the transposed weights, plus the bias. -/
def acc (a0 a1 a2 : FVec F S4096x1024 .f32) (w : FVec F S128x3072 .f32) (b : FVec F S128 .f32) : FVec F S4096x128 .f32 :=
  addf (Host.dotGeneral dot_S4096x3072_S3072x128_S4096x128_1_0_0_1_n_n none
      (concatenate S4096x3072 1 [⟨S4096x1024, a0⟩, ⟨S4096x1024, a1⟩, ⟨S4096x1024, a2⟩] concatenates_S4096x1024_S4096x1024_S4096x1024_S4096x3072_d1)
      (transpose S3072x128 [1, 0] w transposes_S128x3072_S3072x128_1_0))
    (broadcastInDim S4096x128 ![0, 1] bcast_S1x128_S4096x128_0_1 (broadcastInDim S1x128 ![1] bcast_S128_S1x128_1 b))

/-- Rows divided by their lengths, a length below the stated constant replaced by it. -/
def unit (x : FVec F S4096x128 .f32) : FVec F S4096x128 .f32 :=
  Host.divf x (broadcastInDim S4096x128 ![0, 1] bcast_S4096x1_S4096x128_0_1
    (maximumf (Host.sqrt (broadcastInDim S4096x1 ![0] bcast_S4096_S4096x1_0
        (Host.reduceAdd (mulf x x) (constant S_ .f32 0x00000000#32) reducesTo_S4096x128_S4096_d1 h_S_)))
      (broadcastInDim S4096x1 ![] bcast_S_S4096x1 (constant S_ .f32 0x2B8CBCCC#32))))

/-- The candidates' rows times the transposed weights, plus the bias. -/
def candAcc (a : FVec F S16384x1024 .f32) (w : FVec F S128x1024 .f32) (b : FVec F S128 .f32) : FVec F S16384x128 .f32 :=
  addf (Host.dotGeneral dot_S16384x1024_S1024x128_S16384x128_1_0_0_1_n_n none a
      (transpose S1024x128 [1, 0] w transposes_S128x1024_S1024x128_1_0))
    (broadcastInDim S16384x128 ![0, 1] bcast_S1x128_S16384x128_0_1 (broadcastInDim S1x128 ![1] bcast_S128_S1x128_1 b))

/-- The candidates' rows divided by their lengths. -/
def candUnit (x : FVec F S16384x128 .f32) : FVec F S16384x128 .f32 :=
  Host.divf x (broadcastInDim S16384x128 ![0, 1] bcast_S16384x1_S16384x128_0_1
    (maximumf (Host.sqrt (broadcastInDim S16384x1 ![0] bcast_S16384_S16384x1_0
        (Host.reduceAdd (mulf x x) (constant S_ .f32 0x00000000#32) reducesTo_S16384x128_S16384_d1 h_S_)))
      (broadcastInDim S16384x1 ![] bcast_S_S16384x1 (constant S_ .f32 0x2B8CBCCC#32))))

/-- The products of the rows with the candidates' rows. -/
def logits (e : FVec F S4096x128 .f32) (r : FVec F S16384x128 .f32) : FVec F S4096x16384 .f32 :=
  Host.dotGeneral dot_S4096x128_S128x16384_S4096x16384_1_0_0_1_n_n none e
    (transpose S128x16384 [1, 0] r transposes_S16384x128_S128x16384_1_0)

/-- The exponentials of a row less the row's greatest entry. -/
def expo (x : FVec F S4096x16384 .f32) : FVec F S4096x16384 .f32 :=
  Host.exp (subf x (broadcastInDim S4096x16384 ![0, 1] bcast_S4096x1_S4096x16384_0_1
    (broadcastInDim S4096x1 ![0] bcast_S4096_S4096x1_0
      (maximumf (broadcastInDim S4096 ![] bcast_S_S4096 (constant S_ .f32 0xFF800000#32))
        (Host.reduce FloatOps.maximumf x (constant S_ .f32 0xFF800000#32) reducesTo_S4096x16384_S4096_d1 h_S_)))))

/-- A row divided by its sum. -/
def share (y : FVec F S4096x16384 .f32) : FVec F S4096x16384 .f32 :=
  Host.divf y (broadcastInDim S4096x16384 ![0, 1] bcast_S4096x1_S4096x16384_0_1
    (broadcastInDim S4096x1 ![0] bcast_S4096_S4096x1_0
      (Host.reduceAdd y (constant S_ .f32 0x00000000#32) reducesTo_S4096x16384_S4096_d1 h_S_)))

/-- The running sums along a row. -/
def running (p : FVec F S4096x16384 .f32) : FVec F S4096x16384 .f32 :=
  Host.reduceWindowAdd ![1, 16384] ![1, 1] ![0, 16383] ![0, 0] p
    (broadcastInDim S_ ![] bcast_S_S_ (constant S_ .f32 0x00000000#32))
    reduceWindows_S4096x16384_S4096x16384_w1s1p0_0_w16384s1p16383_0 h_S_

/-- Whether the running sum exceeds the row's bound, as a number. -/
def beyond (s : FVec F S4096x16384 .f32) (u : FVec F S4096x1 .f32) : FVec F S4096x16384 .f32 :=
  uitofp .f32 (cmpf .ogt s (broadcastInDim S4096x16384 ![0, 1] bcast_S4096x1_S4096x16384_0_1 u))

/-- The index of a row's first greatest entry. -/
def firstMax (y : FVec F S4096x16384 .f32) : IVec S4096 32 :=
  fun j => (Host.argReduce reducer_argmax_f32_i32 y (iotaInDim S4096x16384 32 1) (constant S_ .f32 0xFF800000#32)
    (constantI S_ 32 0#32) reducesTo_S4096x16384_S4096_d1 h_S_ j).2

/-- The pairs (row, column) at which the shares are read. -/
def places (sel : IVec S4096 32) : IVec S4096x2 32 :=
  concatenate S4096x2 1
    [⟨S4096x1, broadcastInDim S4096x1 ![0] bcast_S4096_S4096x1_0
        (select (cmpi .slt (iotaInDim S4096 32 0) (broadcastInDim S4096 ![] bcast_S_S4096 (constantI S_ 32 0#32)))
          (addi (iotaInDim S4096 32 0) (broadcastInDim S4096 ![] bcast_S_S4096 (constantI S_ 32 4096#32)))
          (iotaInDim S4096 32 0))⟩,
     ⟨S4096x1, broadcastInDim S4096x1 ![0] bcast_S4096_S4096x1_0
        (select (cmpi .slt sel (broadcastInDim S4096 ![] bcast_S_S4096 (constantI S_ 32 0#32)))
          (addi sel (broadcastInDim S4096 ![] bcast_S_S4096 (constantI S_ 32 16384#32)))
          sel)⟩]
    concatenates_S4096x1_S4096x1_S4096x2_d1

/-- The logarithm of the share at the chosen column. -/
def chosen (p : FVec F S4096x16384 .f32) (sel : IVec S4096 32) : FVec F S4096x1 .f32 :=
  broadcastInDim S4096x1 ![0] bcast_S4096_S4096x1_0
    (Host.log (Host.gather gather_S4096x16384_S4096x2_S4096_n_01_n_n_01_1_11 p (places sel)))

/-! ## The operations -/

/-- The operations of @main that compute the joined embedding, in order. -/
abbrev opsA : List (HloOp τ sig (Elt F)) :=
  [ nary ![main_arg0, main_arg1, main_arg2] main_v0 (fun u => (concatenate S4096x3072 1 [⟨S4096x1024, (u 0 : (⟨S4096x1024, .f32⟩ : BufTy).Contents (Elt F))⟩, ⟨S4096x1024, (u 1 : (⟨S4096x1024, .f32⟩ : BufTy).Contents (Elt F))⟩, ⟨S4096x1024, (u 2 : (⟨S4096x1024, .f32⟩ : BufTy).Contents (Elt F))⟩] concatenates_S4096x1024_S4096x1024_S4096x1024_S4096x3072_d1 : (⟨S4096x3072, .f32⟩ : BufTy).Contents (Elt F))),
    unary main_arg4 main_v1 ((transpose S3072x128 [1, 0] · transposes_S128x3072_S3072x128_1_0) : (⟨S128x3072, .f32⟩ : BufTy).Contents (Elt F) → (⟨S3072x128, .f32⟩ : BufTy).Contents (Elt F)),
    binary main_v0 main_v1 main_v2 ((fun l r => Host.dotGeneral dot_S4096x3072_S3072x128_S4096x128_1_0_0_1_n_n none l r) : (⟨S4096x3072, .f32⟩ : BufTy).Contents (Elt F) → (⟨S3072x128, .f32⟩ : BufTy).Contents (Elt F) → (⟨S4096x128, .f32⟩ : BufTy).Contents (Elt F)),
    unary main_arg5 main_v3 (broadcastInDim S1x128 ![1] bcast_S128_S1x128_1 : (⟨S128, .f32⟩ : BufTy).Contents (Elt F) → (⟨S1x128, .f32⟩ : BufTy).Contents (Elt F)),
    unary main_v3 main_v4 (broadcastInDim S4096x128 ![0, 1] bcast_S1x128_S4096x128_0_1 : (⟨S1x128, .f32⟩ : BufTy).Contents (Elt F) → (⟨S4096x128, .f32⟩ : BufTy).Contents (Elt F)),
    binary main_v2 main_v4 main_v5 (addf : (⟨S4096x128, .f32⟩ : BufTy).Contents (Elt F) → (⟨S4096x128, .f32⟩ : BufTy).Contents (Elt F) → (⟨S4096x128, .f32⟩ : BufTy).Contents (Elt F)),
    binary main_v5 main_v5 main_v6 (mulf : (⟨S4096x128, .f32⟩ : BufTy).Contents (Elt F) → (⟨S4096x128, .f32⟩ : BufTy).Contents (Elt F) → (⟨S4096x128, .f32⟩ : BufTy).Contents (Elt F)),
    nullary main_cst (constant S_ .f32 0x00000000#32),
    binary main_v6 main_cst main_v7 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v7 main_v8 (broadcastInDim S4096x1 ![0] bcast_S4096_S4096x1_0 : (⟨S4096, .f32⟩ : BufTy).Contents (Elt F) → (⟨S4096x1, .f32⟩ : BufTy).Contents (Elt F)),
    unary main_v8 main_v9 (Host.sqrt : (⟨S4096x1, .f32⟩ : BufTy).Contents (Elt F) → (⟨S4096x1, .f32⟩ : BufTy).Contents (Elt F)),
    nullary main_cst_0 (constant S_ .f32 0x2B8CBCCC#32),
    unary main_cst_0 main_v10 (broadcastInDim S4096x1 ![] bcast_S_S4096x1 : (⟨S_, .f32⟩ : BufTy).Contents (Elt F) → (⟨S4096x1, .f32⟩ : BufTy).Contents (Elt F)),
    binary main_v9 main_v10 main_v11 (maximumf : (⟨S4096x1, .f32⟩ : BufTy).Contents (Elt F) → (⟨S4096x1, .f32⟩ : BufTy).Contents (Elt F) → (⟨S4096x1, .f32⟩ : BufTy).Contents (Elt F)),
    unary main_v11 main_v12 (broadcastInDim S4096x128 ![0, 1] bcast_S4096x1_S4096x128_0_1 : (⟨S4096x1, .f32⟩ : BufTy).Contents (Elt F) → (⟨S4096x128, .f32⟩ : BufTy).Contents (Elt F)),
    binary main_v5 main_v12 main_v13 (Host.divf : (⟨S4096x128, .f32⟩ : BufTy).Contents (Elt F) → (⟨S4096x128, .f32⟩ : BufTy).Contents (Elt F) → (⟨S4096x128, .f32⟩ : BufTy).Contents (Elt F)) ]

theorem opsA_sub : (opsA : List (HloOp τ sig (Elt F))).Forall fun op => op.bufs ⊆ tcRefs τ sig :=
  ⟨nary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The operations of @main that compute the candidates' embeddings, in order. -/
abbrev opsB : List (HloOp τ sig (Elt F)) :=
  [ unary main_arg6 main_v14 ((transpose S1024x128 [1, 0] · transposes_S128x1024_S1024x128_1_0) : (⟨S128x1024, .f32⟩ : BufTy).Contents (Elt F) → (⟨S1024x128, .f32⟩ : BufTy).Contents (Elt F)),
    binary main_arg3 main_v14 main_v15 ((fun l r => Host.dotGeneral dot_S16384x1024_S1024x128_S16384x128_1_0_0_1_n_n none l r) : (⟨S16384x1024, .f32⟩ : BufTy).Contents (Elt F) → (⟨S1024x128, .f32⟩ : BufTy).Contents (Elt F) → (⟨S16384x128, .f32⟩ : BufTy).Contents (Elt F)),
    unary main_arg7 main_v16 (broadcastInDim S1x128 ![1] bcast_S128_S1x128_1 : (⟨S128, .f32⟩ : BufTy).Contents (Elt F) → (⟨S1x128, .f32⟩ : BufTy).Contents (Elt F)),
    unary main_v16 main_v17 (broadcastInDim S16384x128 ![0, 1] bcast_S1x128_S16384x128_0_1 : (⟨S1x128, .f32⟩ : BufTy).Contents (Elt F) → (⟨S16384x128, .f32⟩ : BufTy).Contents (Elt F)),
    binary main_v15 main_v17 main_v18 (addf : (⟨S16384x128, .f32⟩ : BufTy).Contents (Elt F) → (⟨S16384x128, .f32⟩ : BufTy).Contents (Elt F) → (⟨S16384x128, .f32⟩ : BufTy).Contents (Elt F)),
    binary main_v18 main_v18 main_v19 (mulf : (⟨S16384x128, .f32⟩ : BufTy).Contents (Elt F) → (⟨S16384x128, .f32⟩ : BufTy).Contents (Elt F) → (⟨S16384x128, .f32⟩ : BufTy).Contents (Elt F)),
    nullary main_cst_1 (constant S_ .f32 0x00000000#32),
    binary main_v19 main_cst_1 main_v20 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v20 main_v21 (broadcastInDim S16384x1 ![0] bcast_S16384_S16384x1_0 : (⟨S16384, .f32⟩ : BufTy).Contents (Elt F) → (⟨S16384x1, .f32⟩ : BufTy).Contents (Elt F)),
    unary main_v21 main_v22 (Host.sqrt : (⟨S16384x1, .f32⟩ : BufTy).Contents (Elt F) → (⟨S16384x1, .f32⟩ : BufTy).Contents (Elt F)),
    nullary main_cst_2 (constant S_ .f32 0x2B8CBCCC#32),
    unary main_cst_2 main_v23 (broadcastInDim S16384x1 ![] bcast_S_S16384x1 : (⟨S_, .f32⟩ : BufTy).Contents (Elt F) → (⟨S16384x1, .f32⟩ : BufTy).Contents (Elt F)),
    binary main_v22 main_v23 main_v24 (maximumf : (⟨S16384x1, .f32⟩ : BufTy).Contents (Elt F) → (⟨S16384x1, .f32⟩ : BufTy).Contents (Elt F) → (⟨S16384x1, .f32⟩ : BufTy).Contents (Elt F)),
    unary main_v24 main_v25 (broadcastInDim S16384x128 ![0, 1] bcast_S16384x1_S16384x128_0_1 : (⟨S16384x1, .f32⟩ : BufTy).Contents (Elt F) → (⟨S16384x128, .f32⟩ : BufTy).Contents (Elt F)),
    binary main_v18 main_v25 main_v26 (Host.divf : (⟨S16384x128, .f32⟩ : BufTy).Contents (Elt F) → (⟨S16384x128, .f32⟩ : BufTy).Contents (Elt F) → (⟨S16384x128, .f32⟩ : BufTy).Contents (Elt F)) ]

theorem opsB_sub : (opsB : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The operations of @main that compute the softmax, in order. -/
abbrev opsC : List (HloOp τ sig (Elt F)) :=
  [ unary main_v26 main_v27 ((transpose S128x16384 [1, 0] · transposes_S16384x128_S128x16384_1_0) : (⟨S16384x128, .f32⟩ : BufTy).Contents (Elt F) → (⟨S128x16384, .f32⟩ : BufTy).Contents (Elt F)),
    binary main_v13 main_v27 main_v28 ((fun l r => Host.dotGeneral dot_S4096x128_S128x16384_S4096x16384_1_0_0_1_n_n none l r) : (⟨S4096x128, .f32⟩ : BufTy).Contents (Elt F) → (⟨S128x16384, .f32⟩ : BufTy).Contents (Elt F) → (⟨S4096x16384, .f32⟩ : BufTy).Contents (Elt F)),
    nullary main_cst_3 (constant S_ .f32 0xFF800000#32),
    binary main_v28 main_cst_3 main_v29 ((fun x v => Host.reduce FloatOps.maximumf x v reducesTo_S4096x16384_S4096_d1 h_S_) : (⟨S4096x16384, .f32⟩ : BufTy).Contents (Elt F) → (⟨S_, .f32⟩ : BufTy).Contents (Elt F) → (⟨S4096, .f32⟩ : BufTy).Contents (Elt F)),
    nullary main_cst_4 (constant S_ .f32 0xFF800000#32),
    unary main_cst_4 main_v30 (broadcastInDim S4096 ![] bcast_S_S4096 : (⟨S_, .f32⟩ : BufTy).Contents (Elt F) → (⟨S4096, .f32⟩ : BufTy).Contents (Elt F)),
    binary main_v30 main_v29 main_v31 (maximumf : (⟨S4096, .f32⟩ : BufTy).Contents (Elt F) → (⟨S4096, .f32⟩ : BufTy).Contents (Elt F) → (⟨S4096, .f32⟩ : BufTy).Contents (Elt F)),
    unary main_v31 main_v32 (broadcastInDim S4096x1 ![0] bcast_S4096_S4096x1_0 : (⟨S4096, .f32⟩ : BufTy).Contents (Elt F) → (⟨S4096x1, .f32⟩ : BufTy).Contents (Elt F)),
    unary main_v32 main_v33 (broadcastInDim S4096x16384 ![0, 1] bcast_S4096x1_S4096x16384_0_1 : (⟨S4096x1, .f32⟩ : BufTy).Contents (Elt F) → (⟨S4096x16384, .f32⟩ : BufTy).Contents (Elt F)),
    binary main_v28 main_v33 main_v34 (subf : (⟨S4096x16384, .f32⟩ : BufTy).Contents (Elt F) → (⟨S4096x16384, .f32⟩ : BufTy).Contents (Elt F) → (⟨S4096x16384, .f32⟩ : BufTy).Contents (Elt F)),
    unary main_v34 main_v35 (Host.exp : (⟨S4096x16384, .f32⟩ : BufTy).Contents (Elt F) → (⟨S4096x16384, .f32⟩ : BufTy).Contents (Elt F)),
    nullary main_cst_5 (constant S_ .f32 0x00000000#32),
    binary main_v35 main_cst_5 main_v36 ((fun x v => Host.reduceAdd x v reducesTo_S4096x16384_S4096_d1 h_S_) : (⟨S4096x16384, .f32⟩ : BufTy).Contents (Elt F) → (⟨S_, .f32⟩ : BufTy).Contents (Elt F) → (⟨S4096, .f32⟩ : BufTy).Contents (Elt F)),
    unary main_v36 main_v37 (broadcastInDim S4096x1 ![0] bcast_S4096_S4096x1_0 : (⟨S4096, .f32⟩ : BufTy).Contents (Elt F) → (⟨S4096x1, .f32⟩ : BufTy).Contents (Elt F)),
    unary main_v37 main_v38 (broadcastInDim S4096x16384 ![0, 1] bcast_S4096x1_S4096x16384_0_1 : (⟨S4096x1, .f32⟩ : BufTy).Contents (Elt F) → (⟨S4096x16384, .f32⟩ : BufTy).Contents (Elt F)),
    binary main_v35 main_v38 main_v39 (Host.divf : (⟨S4096x16384, .f32⟩ : BufTy).Contents (Elt F) → (⟨S4096x16384, .f32⟩ : BufTy).Contents (Elt F) → (⟨S4096x16384, .f32⟩ : BufTy).Contents (Elt F)) ]

theorem opsC_sub : (opsC : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- The operations of @main that compute the running sums and the choice, in order. -/
abbrev opsD : List (HloOp τ sig (Elt F)) :=
  [ TRef.nullary main_call0_call0.cst (constant S_ .f32 0x00000000#32),
    TRef.unary main_call0_call0.cst main_call0_call0.v0 (broadcastInDim S_ ![] bcast_S_S_),
    TRef.binary (.of main_v39) main_call0_call0.v0 main_call0_call0.v1 (fun x v => Host.reduceWindowAdd ![1, 16384] ![1, 1] ![0, 16383] ![0, 0] x v reduceWindows_S4096x16384_S4096x16384_w1s1p0_0_w16384s1p16383_0 h_S_),
    unary main_arg8 main_v41 (broadcastInDim S4096x16384 ![0, 1] bcast_S4096x1_S4096x16384_0_1 : (⟨S4096x1, .f32⟩ : BufTy).Contents (Elt F) → (⟨S4096x16384, .f32⟩ : BufTy).Contents (Elt F)),
    binary main_v40 main_v41 main_v42 (cmpf .ogt : (⟨S4096x16384, .f32⟩ : BufTy).Contents (Elt F) → (⟨S4096x16384, .f32⟩ : BufTy).Contents (Elt F) → (⟨S4096x16384, .i1⟩ : BufTy).Contents (Elt F)),
    unary main_v42 main_v43 (uitofp .f32 : (⟨S4096x16384, .i1⟩ : BufTy).Contents (Elt F) → (⟨S4096x16384, .f32⟩ : BufTy).Contents (Elt F)),
    TRef.nullary main_call1.v0 (iotaInDim S4096x16384 32 1),
    TRef.nullary main_call1.cst (constant S_ .f32 0xFF800000#32),
    TRef.nullary main_call1.c (constantI S_ 32 0#32),
    TRef.quaternary (.of main_v43) main_call1.v0 main_call1.cst main_call1.c main_call1.v1_0 (fun x y u v j => (Host.argReduce reducer_argmax_f32_i32 x y u v reducesTo_S4096x16384_S4096_d1 h_S_ j).1),
    TRef.quaternary (.of main_v43) main_call1.v0 main_call1.cst main_call1.c main_call1.v1_1 (fun x y u v j => (Host.argReduce reducer_argmax_f32_i32 x y u v reducesTo_S4096x16384_S4096_d1 h_S_ j).2) ]

theorem opsD_sub : (opsD : List (HloOp τ sig (Elt F))).Forall fun op => op.bufs ⊆ tcRefs τ sig :=
  ⟨nullary_bufs_sub .., unary_bufs_sub .., binary_bufs_sub .., unary_bufs_sub .., binary_bufs_sub .., unary_bufs_sub .., nullary_bufs_sub .., nullary_bufs_sub .., nullary_bufs_sub .., quaternary_bufs_sub .., quaternary_bufs_sub ..⟩

/-- The operations of @main that compute the chosen log probability, in order. -/
abbrev opsE : List (HloOp τ sig (Elt F)) :=
  [ nullary main_v45 (iotaInDim S4096 32 0),
    nullary main_c (constantI S_ 32 0#32),
    unary main_c main_v46 (broadcastInDim S4096 ![] bcast_S_S4096 : (⟨S_, .i32⟩ : BufTy).Contents (Elt F) → (⟨S4096, .i32⟩ : BufTy).Contents (Elt F)),
    binary main_v45 main_v46 main_v47 (cmpi .slt : (⟨S4096, .i32⟩ : BufTy).Contents (Elt F) → (⟨S4096, .i32⟩ : BufTy).Contents (Elt F) → (⟨S4096, .i1⟩ : BufTy).Contents (Elt F)),
    nullary main_c_6 (constantI S_ 32 4096#32),
    unary main_c_6 main_v48 (broadcastInDim S4096 ![] bcast_S_S4096 : (⟨S_, .i32⟩ : BufTy).Contents (Elt F) → (⟨S4096, .i32⟩ : BufTy).Contents (Elt F)),
    binary main_v45 main_v48 main_v49 (addi : (⟨S4096, .i32⟩ : BufTy).Contents (Elt F) → (⟨S4096, .i32⟩ : BufTy).Contents (Elt F) → (⟨S4096, .i32⟩ : BufTy).Contents (Elt F)),
    ternary main_v47 main_v49 main_v45 main_v50 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_7 (constantI S_ 32 0#32),
    unary main_c_7 main_v51 (broadcastInDim S4096 ![] bcast_S_S4096 : (⟨S_, .i32⟩ : BufTy).Contents (Elt F) → (⟨S4096, .i32⟩ : BufTy).Contents (Elt F)),
    binary main_v44 main_v51 main_v52 (cmpi .slt : (⟨S4096, .i32⟩ : BufTy).Contents (Elt F) → (⟨S4096, .i32⟩ : BufTy).Contents (Elt F) → (⟨S4096, .i1⟩ : BufTy).Contents (Elt F)),
    nullary main_c_8 (constantI S_ 32 16384#32),
    unary main_c_8 main_v53 (broadcastInDim S4096 ![] bcast_S_S4096 : (⟨S_, .i32⟩ : BufTy).Contents (Elt F) → (⟨S4096, .i32⟩ : BufTy).Contents (Elt F)),
    binary main_v44 main_v53 main_v54 (addi : (⟨S4096, .i32⟩ : BufTy).Contents (Elt F) → (⟨S4096, .i32⟩ : BufTy).Contents (Elt F) → (⟨S4096, .i32⟩ : BufTy).Contents (Elt F)),
    ternary main_v52 main_v54 main_v44 main_v55 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v50 main_v56 (broadcastInDim S4096x1 ![0] bcast_S4096_S4096x1_0 : (⟨S4096, .i32⟩ : BufTy).Contents (Elt F) → (⟨S4096x1, .i32⟩ : BufTy).Contents (Elt F)),
    unary main_v55 main_v57 (broadcastInDim S4096x1 ![0] bcast_S4096_S4096x1_0 : (⟨S4096, .i32⟩ : BufTy).Contents (Elt F) → (⟨S4096x1, .i32⟩ : BufTy).Contents (Elt F)),
    binary main_v56 main_v57 main_v58 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v39 main_v58 main_v59 ((fun x i => Host.gather gather_S4096x16384_S4096x2_S4096_n_01_n_n_01_1_11 x i) : (⟨S4096x16384, .f32⟩ : BufTy).Contents (Elt F) → (⟨S4096x2, .i32⟩ : BufTy).Contents (Elt F) → (⟨S4096, .f32⟩ : BufTy).Contents (Elt F)),
    unary main_v59 main_v60 (Host.log : (⟨S4096, .f32⟩ : BufTy).Contents (Elt F) → (⟨S4096, .f32⟩ : BufTy).Contents (Elt F)),
    unary main_v60 main_v61 (broadcastInDim S4096x1 ![0] bcast_S4096_S4096x1_0 : (⟨S4096, .f32⟩ : BufTy).Contents (Elt F) → (⟨S4096x1, .f32⟩ : BufTy).Contents (Elt F)) ]

theorem opsE_sub : (opsE : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub ..⟩

/-- @main's operations, in order. -/
abbrev ops : List (HloOp τ sig (Elt F)) := opsA ++ (opsB ++ (opsC ++ (opsD ++ opsE)))

set_option maxHeartbeats 8000000 in
/-- @main is that straight line. -/
theorem main_eq (c : Dev nD) : main (F := F) c = seq ops := rfl

/-- Every operation touches TensorCore references only. -/
theorem ops_sub : (ops : List (HloOp τ sig (Elt F))).Forall fun op => op.bufs ⊆ tcRefs τ sig := by
  simp only [ops, List.forall_append]
  exact ⟨opsA_sub, opsB_sub, opsC_sub, opsD_sub, opsE_sub⟩

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

end Cert.Proof.Ref

end
-- ==== Proof.RefEnd.lean ====
/-
  What the reference program's run leaves in its result buffers, over extended reals: the staged functions of RefRun.lean at
  the launch contents of the arguments, which end unchanged.
-/
module

public import proofs.«01_k».proof.Proof.RefRun

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- What each list of operations writes. -/
abbrev writesA : List (Ref sig .tc) := [main_v0, main_v1, main_v2, main_v3, main_v4, main_v5, main_v6, main_cst, main_v7, main_v8, main_v9, main_cst_0, main_v10, main_v11, main_v12, main_v13]
abbrev writesB : List (Ref sig .tc) := [main_v14, main_v15, main_v16, main_v17, main_v18, main_v19, main_cst_1, main_v20, main_v21, main_v22, main_cst_2, main_v23, main_v24, main_v25, main_v26]
abbrev writesC : List (Ref sig .tc) := [main_v27, main_v28, main_cst_3, main_v29, main_cst_4, main_v30, main_v31, main_v32, main_v33, main_v34, main_v35, main_cst_5, main_v36, main_v37, main_v38, main_v39]
abbrev writesD : List (Ref sig .tc) := [main_call0_call0_cst, main_call0_call0_v0, main_v40, main_v41, main_v42, main_v43, main_call1_v0, main_call1_cst, main_call1_c, main_call1_v1_0, main_v44]
abbrev writesE : List (Ref sig .tc) := [main_v45, main_c, main_v46, main_v47, main_c_6, main_v48, main_v49, main_v50, main_c_7, main_v51, main_v52, main_c_8, main_v53, main_v54, main_v55, main_v56, main_v57, main_v58, main_v59, main_v60, main_v61]

/-- A list leaves alone what it does not write. -/
theorem keepA (V : Valuation τ sig (Elt F)) {r : Ref sig .tc} (h : r ∉ writesA) : after opsA V (Proc.devRef .tc r) = V (Proc.devRef .tc r) :=
  after_of_writes_sub opsA V (forall_writes_sub_of_map rfl) h
theorem keepB (V : Valuation τ sig (Elt F)) {r : Ref sig .tc} (h : r ∉ writesB) : after opsB V (Proc.devRef .tc r) = V (Proc.devRef .tc r) :=
  after_of_writes_sub opsB V (forall_writes_sub_of_map rfl) h
theorem keepC (V : Valuation τ sig (Elt F)) {r : Ref sig .tc} (h : r ∉ writesC) : after opsC V (Proc.devRef .tc r) = V (Proc.devRef .tc r) :=
  after_of_writes_sub opsC V (forall_writes_sub_of_map rfl) h
theorem keepD (V : Valuation τ sig (Elt F)) {r : Ref sig .tc} (h : r ∉ writesD) : after opsD V (Proc.devRef .tc r) = V (Proc.devRef .tc r) :=
  after_of_writes_sub opsD V (forall_writes_sub_of_map rfl) h
theorem keepE (V : Valuation τ sig (Elt F)) {r : Ref sig .tc} (h : r ∉ writesE) : after opsE V (Proc.devRef .tc r) = V (Proc.devRef .tc r) :=
  after_of_writes_sub opsE V (forall_writes_sub_of_map rfl) h

/-- What each list leaves in the buffers read later. -/
theorem endA (V : Valuation τ sig (Elt F)) : after opsA V (main_v13 : DevRef τ sig)
    = unit (acc (V (main_arg0 : DevRef τ sig)) (V (main_arg1 : DevRef τ sig)) (V (main_arg2 : DevRef τ sig)) (V (main_arg4 : DevRef τ sig)) (V (main_arg5 : DevRef τ sig))) := by
  after_results
  rfl
theorem endB (V : Valuation τ sig (Elt F)) : after opsB V (main_v26 : DevRef τ sig)
    = candUnit (candAcc (V (main_arg3 : DevRef τ sig)) (V (main_arg6 : DevRef τ sig)) (V (main_arg7 : DevRef τ sig))) := by
  after_results
  rfl
theorem endC (V : Valuation τ sig (Elt F)) : after opsC V (main_v39 : DevRef τ sig)
    = share (expo (logits (V (main_v13 : DevRef τ sig)) (V (main_v26 : DevRef τ sig)))) := by
  after_results
  rfl
theorem endD (V : Valuation τ sig (Elt F)) : after opsD V (main_v44 : DevRef τ sig)
    = firstMax (beyond (running (V (main_v39 : DevRef τ sig))) (V (main_arg8 : DevRef τ sig))) := by
  after_results
  rfl
theorem endE (V : Valuation τ sig (Elt F)) : after opsE V (main_v61 : DevRef τ sig)
    = chosen (V (main_v39 : DevRef τ sig)) (V (main_v44 : DevRef τ sig)) := by
  after_results
  rfl

/-- The whole line leaves alone what none of its lists writes. -/
theorem keep (V : Valuation τ sig (Elt F)) {r : Ref sig .tc}
    (h : r ∉ writesA ∧ r ∉ writesB ∧ r ∉ writesC ∧ r ∉ writesD ∧ r ∉ writesE) : after ops V (Proc.devRef .tc r) = V (Proc.devRef .tc r) := by
  simp only [ops, StableHlo.after_append]
  rw [keepE _ h.2.2.2.2, keepD _ h.2.2.2.1, keepC _ h.2.2.1, keepB _ h.2.1, keepA _ h.1]

/-- The shares of the candidates, from the launch contents. -/
def outShare (V : Valuation τ sig (Elt F)) : FVec F S4096x16384 .f32 :=
  share (expo (logits (unit (acc (V (main_arg0 : DevRef τ sig)) (V (main_arg1 : DevRef τ sig)) (V (main_arg2 : DevRef τ sig)) (V (main_arg4 : DevRef τ sig)) (V (main_arg5 : DevRef τ sig))))
    (candUnit (candAcc (V (main_arg3 : DevRef τ sig)) (V (main_arg6 : DevRef τ sig)) (V (main_arg7 : DevRef τ sig))))))

/-- The first result, from the launch contents. -/
def outSel (V : Valuation τ sig (Elt F)) : IVec S4096 32 := firstMax (beyond (running (outShare V)) (V (main_arg8 : DevRef τ sig)))

/-- The second result, from the launch contents. -/
def outLog (V : Valuation τ sig (Elt F)) : FVec F S4096x1 .f32 := chosen (outShare V) (outSel V)

theorem end_share (V : Valuation τ sig (Elt F)) : after opsC (after opsB (after opsA V)) (main_v39 : DevRef τ sig) = outShare V := by
  rw [endC, keepB _ (r := main_v13) (by decide), endA, endB, keepA _ (r := main_arg3) (by decide), keepA _ (r := main_arg6) (by decide), keepA _ (r := main_arg7) (by decide)]
  rfl

theorem end_sel (V : Valuation τ sig (Elt F)) : after opsD (after opsC (after opsB (after opsA V))) (main_v44 : DevRef τ sig) = outSel V := by
  rw [endD, end_share, keepC _ (r := main_arg8) (by decide), keepB _ (r := main_arg8) (by decide), keepA _ (r := main_arg8) (by decide)]
  rfl

/-- The whole line leaves the two results. -/
theorem end_main_v44 (V : Valuation τ sig (Elt F)) : after ops V (main_v44 : DevRef τ sig) = outSel V := by
  simp only [ops, StableHlo.after_append]
  rw [keepE _ (r := main_v44) (by decide), end_sel]
theorem end_main_v61 (V : Valuation τ sig (Elt F)) : after ops V (main_v61 : DevRef τ sig) = outLog V := by
  simp only [ops, StableHlo.after_append]
  rw [endE, keepD _ (r := main_v39) (by decide), end_share, end_sel]
  rfl

/-- From any memory with zero counters every execution ends with each buffer at the line's results. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The program has no semaphore. -/
theorem no_sem (s : MemSt nD τ sig (Elt F)) : s.sem = fun _ => 0 := by
  funext ⟨_, sm⟩
  cases sm with
  | reg s => exact (s : Fin 0).elim0
  | dma s => exact (s : Fin 0).elim0

/-- An argument buffer ends as it was. -/
theorem arg_keep (m : (ℓ : Loc nD τ sig) → Buf (Elt F) ℓ) (c : Dev nD) (r : Ref sig .tc)
    (h : r ∉ writesA ∧ r ∉ writesB ∧ r ∉ writesC ∧ r ∉ writesD ∧ r ∉ writesE) :
    after ops (launchContents m c) (Proc.devRef .tc r) = m ((c.tc : Thread nD τ).loc r) :=
  keep _ h

end Cert.Proof.Ref

end
-- ==== Proof.RefRow.lean ====
/-
  The reference program's embeddings and their products at an entry, over extended reals.
-/
module

public import proofs.«01_k».proof.Proof.RefEnd
public import proofs.«01_k».proof.Proof.Rows

@[expose] public section

set_option maxRecDepth 16384

noncomputable section

namespace Cert.Proof.Ref

open Finset Idealize Idealize.ShloMosaic
open Cert.ReferenceIdeal Cert.ReferenceIdeal.Gen
open Cert.Proof.Sampling

/-- The joined embedding before its division, at an entry. -/
theorem acc_apply (a0 a1 a2 : FVec Ideal S4096x1024 .f32) (w : FVec Ideal S128x3072 .f32) (b : FVec Ideal S128 .f32) (r : Fin 4096) (h : Fin 128) :
    acc a0 a1 a2 w b (ix2 r h) = Spec.joint (fun k => a0 (ix2 r k)) (fun k => a1 (ix2 r k)) (fun k => a2 (ix2 r k)) (fun h k => w (ix2 h k)) (fun h => b (ix1 h)) h := by
  pointwise [acc]
  rw [Spec.sum_joined]
  unfold Spec.joint
  refine congrArg (· + _) ?_
  refine congrArg₂ (· + ·) (congrArg₂ (· + ·) ?_ ?_) ?_ <;> refine sum_congr rfl fun k _ => ?_
  · rw [dif_pos k.isLt]
  · rw [dif_neg (by simp), dif_pos (by simp)]
    simp
  · rw [dif_neg (by simp; omega), dif_neg (by simp; omega)]
    congr 3
    refine Fin.ext ?_
    simp; omega

theorem unit_apply (x : FVec Ideal S4096x128 .f32) (r : Fin 4096) (h : Fin 128) : unit x (ix2 r h) = Spec.unit (fun k => x (ix2 r k)) h := by
  pointwise [unit]
  rfl

theorem candAcc_apply (a : FVec Ideal S16384x1024 .f32) (w : FVec Ideal S128x1024 .f32) (b : FVec Ideal S128 .f32) (r : Fin 16384) (h : Fin 128) :
    candAcc a w b (ix2 r h) = Spec.cand (fun k => a (ix2 r k)) (fun h k => w (ix2 h k)) (fun h => b (ix1 h)) h := by
  pointwise [candAcc]
  rfl

theorem candUnit_apply (x : FVec Ideal S16384x128 .f32) (r : Fin 16384) (h : Fin 128) : candUnit x (ix2 r h) = Spec.unit (fun k => x (ix2 r k)) h := by
  pointwise [candUnit]
  rfl

theorem emb_apply (a0 a1 a2 : FVec Ideal S4096x1024 .f32) (w : FVec Ideal S128x3072 .f32) (b : FVec Ideal S128 .f32) (r : Fin 4096) (h : Fin 128) :
    unit (acc a0 a1 a2 w b) (ix2 r h) = Spec.emb a0 a1 a2 w b r h := by
  rw [unit_apply]
  exact congrArg (fun v => Spec.unit v h) (funext fun k => acc_apply a0 a1 a2 w b r k)

theorem cnd_apply (a : FVec Ideal S16384x1024 .f32) (w : FVec Ideal S128x1024 .f32) (b : FVec Ideal S128 .f32) (r : Fin 16384) (h : Fin 128) :
    candUnit (candAcc a w b) (ix2 r h) = Spec.cnd a w b r h := by
  rw [candUnit_apply]
  exact congrArg (fun v => Spec.unit v h) (funext fun k => candAcc_apply a w b r k)

theorem logits_apply (e : FVec Ideal S4096x128 .f32) (x : FVec Ideal S16384x128 .f32) (r : Fin 4096) (j : Fin 16384) :
    logits e x (ix2 r j) = Spec.logit (fun h => e (ix2 r h)) (fun j h => x (ix2 j h)) j := by
  pointwise [logits]
  rfl

end Cert.Proof.Ref
-- ==== Proof.RowOps.lean ====
/-
  Three operations of a reference read on one row: the running sums along it, the first of its greatest entries, and the
  entry a pair of indices names.
-/
module

public import proofs.«01_k».proof.Proof.RefRun
public import proofs.«01_k».proof.Proof.Spec
public import Idealize.ShloMosaic.Lib.Pointwise

@[expose] public section

set_option maxRecDepth 16384

noncomputable section

namespace Cert.Proof.RowOps

open Finset Idealize Idealize.ShloMosaic

/-! ## Running sums -/

/-- A left fold that adds is the starting value plus the sum. -/
theorem foldl_add {α : Type*} (l : List α) (f : α → EReal) (v : EReal) : l.foldl (fun r n => r + f n) v = v + (l.map f).sum := by
  induction l generalizing v with
  | nil => simp
  | cons a l ih => rw [List.foldl_cons, ih, List.map_cons, List.sum_cons, add_assoc]

/-- A window as long as the row, laid so that it ends at each position in turn, sums the row up to that position. -/
theorem window_apply {R N : ℕ} (hN : 0 < N) (h : (⟨2, ![R, N]⟩ : Shape).ReduceWindows ![1, N] ![1, 1] ![0, N - 1] ![0, 0] ⟨2, ![R, N]⟩)
    (x : (⟨2, ![R, N]⟩ : Shape).Idx → EReal) (r : Fin R) (j : Fin N) :
    Ideal.hostReduceWindowAdd ![1, N] ![1, 1] ![0, N - 1] ![0, 0] h x 0 (ix2 r j)
      = ∑ k : Fin N, if k.val ≤ j.val then x (ix2 r k) else 0 := by
  -- the row as a function on the naturals
  let X : ℕ → EReal := fun k => if hk : k < N then x (ix2 r ⟨k, hk⟩) else 0
  have hX : ∀ k : Fin N, x (ix2 r k) = X k := fun k => by simp only [X, k.isLt, dif_pos]
  let g : (⟨2, ![1, N]⟩ : Shape).Idx → EReal := fun w =>
    let p : Fin 2 → Nat := fun a => (ix2 r j (a.cast h.1.symm)).val * (![1, 1] : Fin 2 → ℕ) a + (w a).val
    if hin : ∀ a : Fin 2, (![0, N - 1] : Fin 2 → ℕ) a ≤ p a ∧ p a - (![0, N - 1] : Fin 2 → ℕ) a < (![R, N] : Fin 2 → ℕ) a then
      x (fun a => ⟨p a - (![0, N - 1] : Fin 2 → ℕ) a, (hin a).2⟩) else 0
  have hg : ∀ b : Fin N, g (ix2 0 b) = if N - 1 ≤ j.val + b.val then X (j.val + b.val - (N - 1)) else 0 := by
    intro b
    have hp0 : (ix2 r j ((0 : Fin 2).cast h.1.symm)).val = r.val := rfl
    have hp1 : (ix2 r j ((1 : Fin 2).cast h.1.symm)).val = j.val := rfl
    by_cases hb : N - 1 ≤ j.val + b.val
    · rw [if_pos hb]
      have hlt : j.val + b.val - (N - 1) < N := by omega
      simp only [X, hlt, dif_pos]
      simp only [g]
      rw [dif_pos]
      · congr 1
        funext a
        apply Fin.ext
        match a with
        | ⟨0, _⟩ => show r.val * 1 + 0 - 0 = r.val; omega
        | ⟨1, _⟩ => show j.val * 1 + b.val - (N - 1) = j.val + b.val - (N - 1); omega
      · intro a
        match a with
        | ⟨0, _⟩ => exact ⟨Nat.zero_le _, show r.val * 1 + 0 - 0 < R by omega⟩
        | ⟨1, _⟩ => exact ⟨show N - 1 ≤ j.val * 1 + b.val by omega, show j.val * 1 + b.val - (N - 1) < N by omega⟩
    · rw [if_neg hb]
      simp only [g]
      rw [dif_neg]
      intro hin
      have := (hin 1).1
      have h1 : N - 1 ≤ j.val * 1 + b.val := this
      omega
  have e : Ideal.hostReduceWindowAdd ![1, N] ![1, 1] ![0, N - 1] ![0, 0] h x 0 (ix2 r j)
      = (List.finRange (⟨2, ![1, N]⟩ : Shape).numel).foldl (fun r n => r + g ((⟨2, ![1, N]⟩ : Shape).rowMajor.symm n)) 0 := by
    unfold Ideal.hostReduceWindowAdd Host.reduceWindow
    refine congrArg (fun f => List.foldl f (0 : EReal) (List.finRange (⟨2, ![1, N]⟩ : Shape).numel))
      (funext fun v => funext fun n => congrArg (v + ·) ?_)
    simp only [g]
  rw [e, foldl_add, zero_add, ← Fin.sum_univ_def, Equiv.sum_comp (⟨2, ![1, N]⟩ : Shape).rowMajor.symm g, ValueIdx.sum_idx2,
    Fin.sum_univ_one]
  show ∑ b : Fin N, g (ix2 0 b) = _
  simp only [hX]
  rw [sum_congr rfl fun b _ => hg b]
  rw [Fin.sum_univ_eq_sum_range (fun b => if N - 1 ≤ j.val + b then X (j.val + b - (N - 1)) else 0) N,
    Fin.sum_univ_eq_sum_range (fun k => if k ≤ j.val then X k else 0) N, ← sum_filter, ← sum_filter]
  have hj := j.isLt
  refine sum_nbij' (fun b => j.val + b - (N - 1)) (fun k => k + (N - 1) - j.val) ?_ ?_ ?_ ?_ ?_
  · intro b hb; simp only [mem_filter, mem_range] at hb ⊢; omega
  · intro b hb; simp only [mem_filter, mem_range] at hb ⊢; omega
  · intro b hb; simp only [mem_filter, mem_range] at hb; omega
  · intro b hb; simp only [mem_filter, mem_range] at hb; omega
  · intro b hb; rfl

/-! ## The first greatest entry -/

/-- One pair beats another: the greater value, or the same value at an earlier index. -/
def Beats (p q : EReal × BitVec 32) : Prop := q.1 < p.1 ∨ (q.1 = p.1 ∧ p.2.toInt ≤ q.2.toInt)

theorem Beats.refl (p : EReal × BitVec 32) : Beats p p := .inr ⟨rfl, le_refl _⟩

theorem Beats.trans {p q s : EReal × BitVec 32} (h : Beats p q) (k : Beats q s) : Beats p s := by
  rcases h with h | ⟨h, h'⟩ <;> rcases k with k | ⟨k, k'⟩
  · exact .inl (k.trans h)
  · exact .inl (k ▸ h)
  · exact .inl (h ▸ k)
  · exact .inr ⟨k.trans h, h'.trans k'⟩

/-- The reference's step keeps one of its two pairs, one that beats both. -/
theorem step_beats (a b : EReal × BitVec 32) :
    (Cert.ReferenceIdeal.reducer_argmax_f32_i32 (F := Ideal) a b = a ∨ Cert.ReferenceIdeal.reducer_argmax_f32_i32 (F := Ideal) a b = b)
    ∧ Beats (Cert.ReferenceIdeal.reducer_argmax_f32_i32 (F := Ideal) a b) a
    ∧ Beats (Cert.ReferenceIdeal.reducer_argmax_f32_i32 (F := Ideal) a b) b := by
  obtain ⟨a1, a2⟩ := a
  obtain ⟨b1, b2⟩ := b
  have e : Cert.ReferenceIdeal.reducer_argmax_f32_i32 (F := Ideal) (a1, a2) (b1, b2)
      = (if b1 < a1 then a1 else b1, if b1 < a1 ∨ (a1 = b1 ∧ a2.toInt < b2.toInt) then a2 else b2) := by
    have hs : a2.slt b2 = decide (a2.toInt < b2.toInt) := rfl
    simp only [Cert.ReferenceIdeal.reducer_argmax_f32_i32, Ideal.cmpf_def, Ideal.cmp, Scalar.select, IntOp.cmpi, hs]
    by_cases h1 : b1 < a1 <;> by_cases h2 : a1 = b1 <;> by_cases h3 : a2.toInt < b2.toInt <;>
      simp [h1, h2, h3, IntOp.ori, IntOp.andi]
  rw [e]
  rcases lt_trichotomy b1 a1 with h | h | h
  · simp only [h, if_true, true_or]
    exact ⟨by simp, .refl _, .inl h⟩
  · subst h
    simp only [lt_irrefl, if_false, false_or, true_and]
    by_cases h3 : a2.toInt < b2.toInt
    · rw [if_pos h3]; exact ⟨.inl rfl, .refl _, .inr ⟨rfl, h3.le⟩⟩
    · rw [if_neg h3]; exact ⟨.inr rfl, .inr ⟨rfl, not_lt.1 h3⟩, .refl _⟩
  · have h1 : ¬ b1 < a1 := not_lt.2 h.le
    have h2 : a1 ≠ b1 := h.ne
    simp only [h1, h2, if_false, false_or, false_and]
    exact ⟨by simp, .inl h, .refl _⟩

/-- The fold of the step over a list keeps one of the pairs met, one that beats them all. -/
theorem foldl_beats (l : List (EReal × BitVec 32)) (a : EReal × BitVec 32) :
    (l.foldl (Cert.ReferenceIdeal.reducer_argmax_f32_i32 (F := Ideal)) a = a ∨ l.foldl (Cert.ReferenceIdeal.reducer_argmax_f32_i32 (F := Ideal)) a ∈ l)
    ∧ Beats (l.foldl (Cert.ReferenceIdeal.reducer_argmax_f32_i32 (F := Ideal)) a) a
    ∧ ∀ p ∈ l, Beats (l.foldl (Cert.ReferenceIdeal.reducer_argmax_f32_i32 (F := Ideal)) a) p := by
  induction l generalizing a with
  | nil => exact ⟨.inl rfl, .refl _, fun p hp => absurd hp List.not_mem_nil⟩
  | cons b l ih =>
    rw [List.foldl_cons]
    obtain ⟨h1, h2, h3⟩ := ih (Cert.ReferenceIdeal.reducer_argmax_f32_i32 (F := Ideal) a b)
    obtain ⟨k1, k2, k3⟩ := step_beats a b
    refine ⟨?_, h2.trans k2, fun p hp => ?_⟩
    · rcases h1 with h1 | h1
      · rw [h1]
        rcases k1 with k1 | k1
        · exact .inl k1
        · right; rw [k1]; exact List.mem_cons_self
      · exact .inr (List.mem_cons_of_mem _ h1)
    · rcases List.mem_cons.1 hp with rfl | hp
      · exact h2.trans k3
      · exact h3 p hp

/-- The index a reference's arg-max of a row gives, when the row is ones from some position's on and zeros: the first
position holding a one; of a row of zeros, position 0. -/
theorem argmax_apply {R N : ℕ} (hN : 0 < N) (hN' : N ≤ 2147483648) (h : (⟨2, ![R, N]⟩ : Shape).ReducesTo [1] ⟨1, ![R]⟩) (hu : 0 < (⟨0, ![]⟩ : Shape).numel)
    (y : (⟨2, ![R, N]⟩ : Shape).Idx → EReal) (ix : (⟨0, ![]⟩ : Shape).Idx → EReal) (iy : (⟨0, ![]⟩ : Shape).Idx → BitVec 32)
    (hix : ∀ i, ix i = ⊥) (r : Fin R) (hy : ∀ k, y (ix2 r k) = 0 ∨ y (ix2 r k) = 1) (n : Fin N)
    (hn : (y (ix2 r n) = 1 ∧ ∀ k : Fin N, k.val < n.val → y (ix2 r k) = 0) ∨ (n.val = 0 ∧ ∀ k, y (ix2 r k) = 0)) :
    (Host.argReduce (φ := .f32) (F := Ideal) Cert.ReferenceIdeal.reducer_argmax_f32_i32 y (iotaInDim ⟨2, ![R, N]⟩ 32 1) ix iy h hu (ix1 r)).2
      = BitVec.ofNat 32 n.val := by
  rw [Ideal.argReduce_eq_reduce2, Host.reduce2_eq_foldl_fiber]
  generalize hl : Host.argReduceFiber y (iotaInDim ⟨2, ![R, N]⟩ 32 1) h (ix1 r) = l
  have hmem : ∀ p, p ∈ l ↔ ∃ k : Fin N, p = (y (ix2 r k), BitVec.ofNat 32 k.val) := by
    intro p
    rw [← hl]
    unfold Host.argReduceFiber
    simp only [List.mem_map, List.mem_filter, List.mem_finRange, true_and, decide_eq_true_eq]
    constructor
    · rintro ⟨m, hm, rfl⟩
      obtain ⟨k, hk⟩ := (h.fiber_r2_a1 _ _).1 hm
      refine ⟨k, ?_⟩
      rw [← hk]; rfl
    · rintro ⟨k, rfl⟩
      refine ⟨(⟨2, ![R, N]⟩ : Shape).rowMajor (ix2 r k), ?_, ?_⟩
      · rw [Equiv.symm_apply_apply]
        exact (h.fiber_r2_a1 _ _).2 ⟨k, rfl⟩
      · rw [Equiv.symm_apply_apply]; rfl
  obtain ⟨h1, h2, h3⟩ := foldl_beats l (ix (Shape.Idx.first hu), iy (Shape.Idx.first hu))
  generalize hf : l.foldl (Cert.ReferenceIdeal.reducer_argmax_f32_i32 (F := Ideal)) (ix (Shape.Idx.first hu), iy (Shape.Idx.first hu)) = f at h1 h2 h3
  have hin : ∃ k : Fin N, f = (y (ix2 r k), BitVec.ofNat 32 k.val) := by
    rcases h1 with h1 | h1
    · exfalso
      have := h3 _ ((hmem _).2 ⟨⟨0, hN⟩, rfl⟩)
      rw [h1, hix] at this
      rcases this with this | this
      · exact absurd this not_lt_bot
      · rcases hy ⟨0, hN⟩ with e | e <;> rw [e] at this
        · exact absurd this.1 (EReal.coe_ne_bot 0)
        · exact absurd this.1 (EReal.coe_ne_bot 1)
    · exact (hmem _).1 h1
  obtain ⟨k, rfl⟩ := hin
  have hb := h3 _ ((hmem _).2 ⟨n, rfl⟩)
  have hk := k.isLt
  have hnl := n.isLt
  have ti : ∀ m : Fin N, (BitVec.ofNat 32 m.val).toInt = m.val := by
    intro m
    have hm := m.isLt
    have e : (BitVec.ofNat 32 m.val).toNat = m.val := by rw [BitVec.toNat_ofNat]; exact Nat.mod_eq_of_lt (by omega)
    rw [BitVec.toInt_eq_toNat_of_lt (by rw [e]; omega), e]
  have hkn : k = n := by
    rcases hn with ⟨e1, e2⟩ | ⟨e1, e2⟩
    · rcases hb with hb | ⟨hb, hb'⟩
      · rw [e1] at hb
        rcases hy k with e | e <;> simp only [e] at hb
        · exact absurd hb (by simp)
        · exact absurd hb (lt_irrefl _)
      · simp only [ti] at hb'
        by_contra hne
        have hlt : k.val < n.val := lt_of_le_of_ne (by exact_mod_cast hb') fun e => hne (Fin.ext e)
        simp only [e1, e2 k hlt] at hb
        exact absurd hb (by simp)
    · rcases hb with hb | ⟨hb, hb'⟩
      · simp only [e2] at hb
        exact absurd hb (lt_irrefl _)
      · simp only [ti] at hb'
        exact Fin.ext (by have : k.val ≤ n.val := by exact_mod_cast hb'
                          omega)
  rw [hkn]

/-- The indices a reference's arg-max gives, of any shapes. -/
def argIdx {F : FTy → Type} [FloatOps F] {s t : Shape} {axes : List (Fin s.rank)} (y : FVec F s .f32) (io : IVec s 32)
    (ix : FVec F ⟨0, ![]⟩ .f32) (iy : IVec ⟨0, ![]⟩ 32) (h : s.ReducesTo axes t) (hu : 0 < (⟨0, ![]⟩ : Shape).numel) : IVec t 32 :=
  fun j => (Host.argReduce Cert.ReferenceIdeal.reducer_argmax_f32_i32 y io ix iy h hu j).2

/-- Its entry at a row of zeros and ones: the first position holding a one; of a row of zeros, position 0. -/
theorem argIdx_apply {R N : ℕ} (hN : 0 < N) (hN' : N ≤ 2147483648) (h : (⟨2, ![R, N]⟩ : Shape).ReducesTo [1] ⟨1, ![R]⟩) (hu : 0 < (⟨0, ![]⟩ : Shape).numel)
    (y : (⟨2, ![R, N]⟩ : Shape).Idx → EReal) (io : (⟨2, ![R, N]⟩ : Shape).Idx → BitVec 32) (hio : io = iotaInDim ⟨2, ![R, N]⟩ 32 1)
    (ix : (⟨0, ![]⟩ : Shape).Idx → EReal) (iy : (⟨0, ![]⟩ : Shape).Idx → BitVec 32)
    (hix : ∀ i, ix i = ⊥) (r : Fin R) (hy : ∀ k, y (ix2 r k) = 0 ∨ y (ix2 r k) = 1) (n : Fin N)
    (hn : (y (ix2 r n) = 1 ∧ ∀ k : Fin N, k.val < n.val → y (ix2 r k) = 0) ∨ (n.val = 0 ∧ ∀ k, y (ix2 r k) = 0)) :
    argIdx (F := Ideal) y io ix iy h hu (ix1 r) = BitVec.ofNat 32 n.val := by
  rw [argIdx, hio]
  exact argmax_apply hN hN' h hu y ix iy hix r hy n hn

/-! ## An entry by a pair of indices -/

/-- The dimension numbers of a gather that reads one entry of a table per pair of indices. -/
abbrev pairDims (N C B : ℕ) (wf : GatherDims.WF ⟨2, ![N, C]⟩ ⟨2, ![B, 2]⟩ ⟨1, ![B]⟩ [] [0, 1] [] [0, 1] [] 1 ![1, 1]) :
    GatherDims ⟨2, ![N, C]⟩ ⟨2, ![B, 2]⟩ ⟨1, ![B]⟩ where
  offsetDims := []
  collapsedSliceDims := [0, 1]
  operandBatchingDims := []
  startIndicesBatchingDims := []
  startIndexMap := [0, 1]
  indexVectorDim := 1
  sliceSizes := ![1, 1]
  wf := wf

/-- The entry read for pair `r`: the table at the pair's two indices, each read signed and brought into range. -/
theorem pair_apply {α : Type} {N C B : ℕ} (hN : 0 < N) (hC : 0 < C)
    (wf : GatherDims.WF ⟨2, ![N, C]⟩ ⟨2, ![B, 2]⟩ ⟨1, ![B]⟩ [] [0, 1] [] [0, 1] [] 1 ![1, 1])
    (x : (⟨2, ![N, C]⟩ : Shape).Idx → α) (idx : IVec ⟨2, ![B, 2]⟩ 32) (r : Fin B) :
    Host.gather (pairDims N C B wf) x idx (ix1 r)
      = x (ix2 ⟨min (idx (ix2 r 0)).toInt.toNat (N - 1), by omega⟩ ⟨min (idx (ix2 r 1)).toInt.toNat (C - 1), by omega⟩) := by
  unfold Host.gather
  congr 1
  funext a
  refine Fin.ext ?_
  show (pairDims N C B wf).start (ix1 r) idx a + (pairDims N C B wf).batchCoord (ix1 r) a + (pairDims N C B wf).offCoord (ix1 r) a = _
  have h01 : a = 0 ∨ a = 1 := by
    match a with
    | ⟨0, _⟩ => exact .inl rfl
    | ⟨1, _⟩ => exact .inr rfl
  have hm : a ∈ (pairDims N C B wf).collapsedSliceDims := by
    rcases h01 with rfl | rfl
    · exact List.mem_cons_self
    · exact List.mem_cons_of_mem _ List.mem_cons_self
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos (show a ∈ (pairDims N C B wf).startIndexMap from hm)]
  rcases h01 with rfl | rfl
  · have hsi : (pairDims N C B wf).siIdx (ix1 r) ⟨List.idxOf (0 : Fin 2) (pairDims N C B wf).startIndexMap,
        List.idxOf_lt_length_iff.2 hm⟩ = ix2 r 0 := by
      funext b; refine Fin.ext ?_
      match b with
      | ⟨0, _⟩ => rfl
      | ⟨1, _⟩ => rfl
    rw [hsi]; rfl
  · have hsi : (pairDims N C B wf).siIdx (ix1 r) ⟨List.idxOf (1 : Fin 2) (pairDims N C B wf).startIndexMap,
        List.idxOf_lt_length_iff.2 hm⟩ = ix2 r 1 := by
      funext b; refine Fin.ext ?_
      match b with
      | ⟨0, _⟩ => rfl
      | ⟨1, _⟩ => rfl
    rw [hsi]; rfl

end Cert.Proof.RowOps
-- ==== Proof.RefOps.lean ====
/-
  The reference program's operations on a row of products, at an entry, over extended reals.
-/
module

public import proofs.«01_k».proof.Proof.RefEnd
public import proofs.«01_k».proof.Proof.RefRow
public import proofs.«01_k».proof.Proof.RowOps

@[expose] public section

set_option maxRecDepth 16384

noncomputable section

namespace Cert.Proof.Ref

open Finset Idealize Idealize.ShloMosaic
open Cert.ReferenceIdeal Cert.ReferenceIdeal.Gen
open Cert.Proof.Sampling

/-- Whether the running sum exceeds the bound, at an entry. -/
theorem beyond_apply (s : FVec Ideal S4096x16384 .f32) (u : FVec Ideal S4096x1 .f32) (r : Fin 4096) (j : Fin 16384) :
    beyond s u (ix2 r j) = if u (ix2 r 0) < s (ix2 r j) then 1 else 0 := by
  have hb : ((broadcastInDim S4096x16384 ![0, 1] bcast_S4096x1_S4096x16384_0_1 u) : FVec Ideal S4096x16384 .f32) (ix2 r j) = u (ix2 r 0) := by pointwise []
  have e : beyond s u (ix2 r j) = FloatOps.uitofp (F := Ideal) .f32 (FloatOps.cmpf (F := Ideal) (φ := .f32) .ogt (s (ix2 r j)) ((broadcastInDim S4096x16384 ![0, 1] bcast_S4096x1_S4096x16384_0_1 u : FVec Ideal S4096x16384 .f32) (ix2 r j))) := rfl
  rw [e, hb]
  rw [Ideal.cmpf_def]
  by_cases h : u (ix2 r 0) < s (ix2 r j)
  · rw [if_pos h]
    show (((Ideal.cmp .ogt (s (ix2 r j)) (u (ix2 r 0))).toNat : ℝ) : EReal) = 1
    simp [Ideal.cmp, h]
  · rw [if_neg h]
    show (((Ideal.cmp .ogt (s (ix2 r j)) (u (ix2 r 0))).toNat : ℝ) : EReal) = 0
    simp [Ideal.cmp, h]

/-- The running sum at an entry is the sum of the entries up to it. -/
theorem running_apply (p : FVec Ideal S4096x16384 .f32) (r : Fin 4096) (j : Fin 16384) :
    running p (ix2 r j) = ∑ k : Fin 16384, if k.val ≤ j.val then p (ix2 r k) else 0 := by
  have w := RowOps.window_apply (R := 4096) (N := 16384) (by norm_num) reduceWindows_S4096x16384_S4096x16384_w1s1p0_0_w16384s1p16383_0 p r j
  have hz : ((broadcastInDim S_ ![] bcast_S_S_ (constant S_ .f32 0x00000000#32)) : FVec Ideal S_ .f32) (Shape.Idx.first h_S_) = (0 : EReal) := Ideal.ofBits_zero_f32
  unfold running Host.reduceWindowAdd
  rw [hz]
  exact w
/-- The greatest entry of a row of reals is real. -/
theorem max_real {R N : ℕ} (hN : 0 < N) (h : (⟨2, ![R, N]⟩ : Shape).ReducesTo [1] ⟨1, ![R]⟩) (hu : 0 < (⟨0, ![]⟩ : Shape).numel)
    (x : (⟨2, ![R, N]⟩ : Shape).Idx → EReal) (ix : (⟨0, ![]⟩ : Shape).Idx → EReal) (hix : ∀ i, ix i = ⊥) (r : Fin R)
    (l : Fin N → ℝ) (hl : ∀ j, x (ix2 r j) = l j) :
    ∃ m : ℝ, Host.reduce (max : EReal → EReal → EReal) x ix h hu (ix1 r) = m := by
  rw [Host.reduce_eq_fold, h.fold_fiber_r2_a1, hix]
  have e : ∀ S : Finset (Fin N), S.Nonempty → ∃ m : ℝ, S.fold max (⊥ : EReal) (fun k => x (ix2 r k)) = m := by
    intro S hS
    induction hS using Finset.Nonempty.cons_induction with
    | singleton a => exact ⟨l a, by simp [hl]⟩
    | cons a S ha hS ih =>
      obtain ⟨m, hm⟩ := ih
      refine ⟨max (l a) m, ?_⟩
      rw [Finset.fold_cons, hm, hl]
      rfl
  exact e Finset.univ ⟨⟨0, hN⟩, Finset.mem_univ _⟩

/-- The word the maxima start from is minus infinity. -/
theorem bot_apply (i : S_.Idx) : (constant S_ .f32 0xFF800000#32 : FVec Ideal S_ .f32) i = (⊥ : EReal) := by
  show Ideal.ofBits .f32 0xFF800000#32 = ⊥
  simp [Ideal.ofBits, Ideal.ieee]

/-- The greatest entry of each row. -/
def rowMax (x : FVec Ideal S4096x16384 .f32) : FVec Ideal S4096 .f32 :=
  maximumf (broadcastInDim S4096 ![] bcast_S_S4096 (constant S_ .f32 0xFF800000#32))
    (Host.reduce FloatOps.maximumf x (constant S_ .f32 0xFF800000#32) reducesTo_S4096x16384_S4096_d1 h_S_)

/-- The greatest entry of a row of reals is real. -/
theorem rowMax_real (x : FVec Ideal S4096x16384 .f32) (r : Fin 4096) (l : Fin 16384 → ℝ) (hl : ∀ j, x (ix2 r j) = l j) :
    ∃ m : ℝ, rowMax x (ix1 r) = m := by
  obtain ⟨m, hm⟩ := max_real (R := 4096) (N := 16384) (by norm_num) reducesTo_S4096x16384_S4096_d1 h_S_ x _ bot_apply r l hl
  refine ⟨m, ?_⟩
  rw [← hm]
  have hb : ((broadcastInDim S4096 ![] bcast_S_S4096 (constant S_ .f32 0xFF800000#32)) : FVec Ideal S4096 .f32) (ix1 r) = (⊥ : EReal) := bot_apply _
  unfold rowMax
  generalize hM : (Host.reduce FloatOps.maximumf x (constant S_ .f32 0xFF800000#32) reducesTo_S4096x16384_S4096_d1 h_S_ : FVec Ideal S4096 .f32) = M
  have e : ∀ A B : FVec Ideal S4096 .f32, (maximumf A B : FVec Ideal S4096 .f32) (ix1 r) = max (A (ix1 r)) (B (ix1 r)) := fun _ _ => rfl
  rw [e, hb, max_eq_right bot_le, ← hM]

/-- A small number read signed from its word. -/
theorem small_toInt {n : ℕ} (h : n < 2147483648) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- A small number is not negative, so it is kept. -/
theorem keep_nonneg {n : ℕ} (h : n < 2147483648) (w : BitVec 32) :
    Scalar.select (IntOp.cmpi .slt (BitVec.ofNat 32 n) 0#32) w (BitVec.ofNat 32 n) = BitVec.ofNat 32 n := by
  have e : IntOp.cmpi .slt (BitVec.ofNat 32 n) 0#32 = 0#1 := by
    have hn : ¬ ((n : ℤ) < 0) := by omega
    simp [IntOp.cmpi, BitVec.slt, small_toInt h, hn]
  rw [e]
  rfl

/-- The row index of a pair. -/
theorem places_row (sel : IVec S4096 32) (r : Fin 4096) : places sel (ix2 r 0) = BitVec.ofNat 32 r.val := by
  pointwise [places]
  exact keep_nonneg (by omega) _

/-- The column index of a pair. -/
theorem places_col (sel : IVec S4096 32) (r : Fin 4096) (n : Fin 16384) (hs : sel (ix1 r) = BitVec.ofNat 32 n.val) :
    places sel (ix2 r 1) = BitVec.ofNat 32 n.val := by
  pointwise [places]
  rw [hs]
  exact keep_nonneg (by omega) _

/-- The logarithm read at a row whose column is given. -/
theorem chosen_apply (p : FVec Ideal S4096x16384 .f32) (sel : IVec S4096 32) (r : Fin 4096) (n : Fin 16384) (hs : sel (ix1 r) = BitVec.ofNat 32 n.val) :
    chosen p sel (ix2 r 0) = Ideal.log (p (ix2 r n)) := by
  have g := RowOps.pair_apply (N := 4096) (C := 16384) (B := 4096) (by norm_num) (by norm_num)
    gather_S4096x16384_S4096x2_S4096_n_01_n_n_01_1_11.wf p (places sel) r
  have g' : (Host.gather gather_S4096x16384_S4096x2_S4096_n_01_n_n_01_1_11 p (places sel) : FVec Ideal S4096 .f32) (ix1 r) = p (ix2 r n) := by
    refine g.trans ?_
    congr 1
    have h0 := r.isLt
    have h1 := n.isLt
    congr 1
    · exact Fin.ext (by simp only [places_row, small_toInt (show r.val < 2147483648 by omega)]; omega)
    · exact Fin.ext (by simp only [places_col sel r n hs, small_toInt (show n.val < 2147483648 by omega)]; omega)
  unfold chosen
  generalize (Host.gather gather_S4096x16384_S4096x2_S4096_n_01_n_n_01_1_11 p (places sel) : FVec Ideal S4096 .f32) = G at g'
  rw [← g']
  pointwise []

/-- The exponentials, at an entry. -/
theorem expo_apply (x : FVec Ideal S4096x16384 .f32) (r : Fin 4096) (j : Fin 16384) : expo x (ix2 r j) = Ideal.exp (x (ix2 r j) - rowMax x (ix1 r)) := by
  unfold expo
  rw [show maximumf (broadcastInDim S4096 ![] bcast_S_S4096 (constant S_ .f32 0xFF800000#32))
    (Host.reduce FloatOps.maximumf x (constant S_ .f32 0xFF800000#32) reducesTo_S4096x16384_S4096_d1 h_S_) = rowMax x from (rowMax.eq_1 x).symm]
  generalize rowMax x = M
  pointwise []

/-- An entry divided by its row's sum. -/
theorem share_apply (y : FVec Ideal S4096x16384 .f32) (r : Fin 4096) (j : Fin 16384) : share y (ix2 r j) = Ideal.div (y (ix2 r j)) (∑ k, y (ix2 r k)) := by
  pointwise [share]

/-- The indices of the first greatest entries, by the arg-max of any shapes. -/
theorem firstMax_eq (y : FVec Ideal S4096x16384 .f32) : firstMax y
    = RowOps.argIdx y (iotaInDim S4096x16384 32 1) (constant S_ .f32 0xFF800000#32) (constantI S_ 32 0#32) reducesTo_S4096x16384_S4096_d1 h_S_ := rfl

/-- The position of the first one in a row of zeros and ones. -/
theorem firstMax_apply (y : FVec Ideal S4096x16384 .f32) (r : Fin 4096) (hy : ∀ k, y (ix2 r k) = (0 : EReal) ∨ y (ix2 r k) = (1 : EReal)) (n : Fin 16384)
    (hn : (y (ix2 r n) = (1 : EReal) ∧ ∀ k : Fin 16384, k.val < n.val → y (ix2 r k) = (0 : EReal)) ∨ (n.val = 0 ∧ ∀ k, y (ix2 r k) = (0 : EReal))) :
    firstMax y (ix1 r) = BitVec.ofNat 32 n.val := by
  rw [firstMax_eq]
  exact RowOps.argIdx_apply (R := 4096) (N := 16384) (by norm_num) (by norm_num) reducesTo_S4096x16384_S4096_d1 h_S_ y _ rfl _ _ bot_apply r hy n hn

end Cert.Proof.Ref
-- ==== Proof.RefValue.lean ====
/-
  The reference program's two results at a row, over extended reals: the place the bound picks among the row's weights, and
  the logarithm of the share of the weight there.
-/
module

public import proofs.«01_k».proof.Proof.RefEnd
public import proofs.«01_k».proof.Proof.RefRow
public import proofs.«01_k».proof.Proof.RefOps

@[expose] public section

set_option maxRecDepth 16384

noncomputable section

namespace Cert.Proof.Ref

open Finset Idealize Idealize.ShloMosaic
open Cert.ReferenceIdeal Cert.ReferenceIdeal.Gen
open Idealize.ShloMosaic.StableHlo Idealize.ShloMosaic.TcCoe
open Cert.Proof.Sampling Cert.Proof.Spec

/-- The position picked is the first whose running sum passes the bound, or 0 if none does. -/
theorem pick_spec (x : ℕ → ℝ) (t : EReal) :
    (t < (P x (pick x t + 1) : EReal) ∧ ∀ k, k < pick x t → ¬ t < (P x (k + 1) : EReal))
      ∨ (pick x t = 0 ∧ ∀ k, k < 16384 → ¬ t < (P x (k + 1) : EReal)) := by
  classical
  by_cases h : ∃ j, j < 16384 ∧ t < (P x (j + 1) : EReal)
  · left
    have e : pick x t = Nat.find h := by unfold pick; rw [dif_pos h]
    have h1 := Nat.find_spec h
    rw [e]
    exact ⟨h1.2, fun k hk hh => Nat.find_min h hk ⟨hk.trans h1.1, hh⟩⟩
  · right
    refine ⟨by unfold pick; rw [dif_neg h], fun k hk hh => h ⟨k, hk, hh⟩⟩

/-- A bound against a share of a positive total is the bound times the total against the part. -/
theorem lt_share (u : EReal) {a z : ℝ} (hz : 0 < z) : u < ((a / z : ℝ) : EReal) ↔ u * (z : EReal) < (a : EReal) := by
  induction u with
  | bot => rw [EReal.bot_mul_coe_of_pos hz]; exact ⟨fun _ => EReal.bot_lt_coe _, fun _ => EReal.bot_lt_coe _⟩
  | top => rw [EReal.top_mul_coe_of_pos hz]; exact ⟨fun h => absurd h not_top_lt, fun h => absurd h not_top_lt⟩
  | coe u =>
    rw [← EReal.coe_mul, EReal.coe_lt_coe_iff, EReal.coe_lt_coe_iff, lt_div_iff₀ hz]

/-- A row's share at an entry: the weight over the total weight. -/
theorem shares (E : FVec Ideal S4096x128 .f32) (X : FVec Ideal S16384x128 .f32) (r : Fin 4096)
    (e : Fin 128 → EReal) (c : Fin 16384 → Fin 128 → EReal) (he : ∃ g : Fin 128 → ℝ, ∀ h, e h = g h) (hc : ∀ j, ∃ g : Fin 128 → ℝ, ∀ h, c j h = g h)
    (hE : ∀ h, E (ix2 r h) = e h) (hX : ∀ j h, X (ix2 j h) = c j h) (j : Fin 16384) :
    share (expo (logits E X)) (ix2 r j) = ((weight e c j / P (weight e c) 16384 : ℝ) : EReal) := by
  have hl : ∀ k, logits E X (ix2 r k) = ((score e c k : ℝ) : EReal) := by
    intro k
    rw [logits_apply, ← logit_eq he hc]
    unfold logit
    exact sum_congr rfl fun h _ => by simp only [hE, hX]
  obtain ⟨m, hm⟩ := rowMax_real (logits E X) r (fun k => score e c k) hl
  have hx : ∀ k : Fin 16384, expo (logits E X) (ix2 r k) = ((weight e c k * Real.exp (-m) : ℝ) : EReal) := by
    intro k
    rw [expo_apply, hl, hm, ← EReal.coe_sub, Ideal.exp_coe, sub_eq_add_neg, Real.exp_add]
    rfl
  have hs : (∑ k : Fin 16384, expo (logits E X) (ix2 r k)) = ((P (weight e c) 16384 * Real.exp (-m) : ℝ) : EReal) := by
    rw [sum_congr rfl fun k _ => hx k, coe_sum, ← sum_mul]
    rw [Fin.sum_univ_eq_sum_range (fun k => weight e c k) 16384]
    rfl
  have hp := total_pos (weight e c) (weight_pos e c)
  have hm0 := Real.exp_pos (-m)
  rw [share_apply, hs, hx, Ideal.div_coe (by positivity), ← EReal.coe_mul]
  refine congrArg (fun y : ℝ => (y : EReal)) ?_
  generalize P (weight e c) 16384 = z at hp
  field_simp

/-- A row's running share at an entry: the running weight over the total weight. -/
theorem runnings (p : FVec Ideal S4096x16384 .f32) (r : Fin 4096) (x : ℕ → ℝ) (z : ℝ)
    (hp : ∀ j : Fin 16384, p (ix2 r j) = ((x j / z : ℝ) : EReal)) (j : Fin 16384) :
    running p (ix2 r j) = ((P x (j.val + 1) / z : ℝ) : EReal) := by
  rw [running_apply]
  have e : ∀ k : Fin 16384, (if k.val ≤ j.val then p (ix2 r k) else 0) = (((if k.val ≤ j.val then x k else 0) / z : ℝ) : EReal) := by
    intro k
    split
    · exact hp k
    · simp
  rw [sum_congr rfl fun k _ => e k, coe_sum, ← sum_div]
  refine congrArg (fun y : ℝ => ((y / z : ℝ) : EReal)) ?_
  rw [Fin.sum_univ_eq_sum_range (fun k => if k ≤ j.val then x k else 0) 16384, ← sum_filter]
  unfold P
  refine sum_congr ?_ fun _ _ => rfl
  ext k
  have := j.isLt
  simp only [mem_filter, mem_range]
  omega

/-- The column chosen in a row, and the logarithm of the share there. -/
theorem row_results (E : FVec Ideal S4096x128 .f32) (X : FVec Ideal S16384x128 .f32) (u : FVec Ideal S4096x1 .f32) (r : Fin 4096)
    (e : Fin 128 → EReal) (c : Fin 16384 → Fin 128 → EReal) (he : ∃ g : Fin 128 → ℝ, ∀ h, e h = g h) (hc : ∀ j, ∃ g : Fin 128 → ℝ, ∀ h, c j h = g h)
    (hE : ∀ h, E (ix2 r h) = e h) (hX : ∀ j h, X (ix2 j h) = c j h) :
    firstMax (beyond (running (share (expo (logits E X)))) u) (ix1 r) = sel e c (u (ix2 r 0))
    ∧ chosen (share (expo (logits E X))) (firstMax (beyond (running (share (expo (logits E X)))) u)) (ix2 r 0) = logShare e c (u (ix2 r 0)) := by
  have hsh := shares E X r e c he hc hE hX
  generalize share (expo (logits E X)) = p at hsh
  have hp := total_pos (weight e c) (weight_pos e c)
  have hb : ∀ j : Fin 16384, beyond (running p) u (ix2 r j)
      = if u (ix2 r 0) * (P (weight e c) 16384 : EReal) < (P (weight e c) (j.val + 1) : EReal) then (1 : EReal) else 0 := by
    intro j
    rw [beyond_apply, runnings p r (weight e c) _ hsh]
    exact if_congr (lt_share _ hp) rfl rfl
  have hlt : place e c (u (ix2 r 0)) < 16384 := pick_lt _ _
  have h1 : firstMax (beyond (running p) u) (ix1 r) = BitVec.ofNat 32 (⟨place e c (u (ix2 r 0)), hlt⟩ : Fin 16384).val := by
    refine firstMax_apply _ r (fun k => ?_) _ ?_
    · rw [hb]; split
      · exact .inr rfl
      · exact .inl rfl
    · rcases pick_spec (weight e c) (u (ix2 r 0) * (P (weight e c) 16384 : EReal)) with ⟨a, b⟩ | ⟨a, b⟩
      · exact .inl ⟨by rw [hb]; exact if_pos a, fun k hk => by rw [hb]; exact if_neg (b _ hk)⟩
      · exact .inr ⟨a, fun k => by rw [hb]; exact if_neg (b _ k.isLt)⟩
  refine ⟨h1, ?_⟩
  have hw := weight_pos e c (place e c (u (ix2 r 0)))
  rw [chosen_apply p _ r _ h1, hsh, Ideal.log_coe]
  rw [if_neg (not_le.2 (div_pos hw hp)), Real.log_div hw.ne' hp.ne']
  rfl

/-- The reference's two results at a row, from the launch contents. -/
theorem results (V : Valuation τ sig (Elt Ideal)) (r : Fin 4096) :
    outSel V (ix1 r) = sel (emb (V (Proc.devRef .tc main_arg0)) (V (Proc.devRef .tc main_arg1)) (V (Proc.devRef .tc main_arg2)) (V (Proc.devRef .tc main_arg4)) (V (Proc.devRef .tc main_arg5)) r)
        (cnd (V (Proc.devRef .tc main_arg3)) (V (Proc.devRef .tc main_arg6)) (V (Proc.devRef .tc main_arg7)))
        ((V (Proc.devRef .tc main_arg8) : FVec Ideal S4096x1 .f32) (ix2 r 0))
    ∧ outLog V (ix2 r 0) = logShare (emb (V (Proc.devRef .tc main_arg0)) (V (Proc.devRef .tc main_arg1)) (V (Proc.devRef .tc main_arg2)) (V (Proc.devRef .tc main_arg4)) (V (Proc.devRef .tc main_arg5)) r)
        (cnd (V (Proc.devRef .tc main_arg3)) (V (Proc.devRef .tc main_arg6)) (V (Proc.devRef .tc main_arg7)))
        ((V (Proc.devRef .tc main_arg8) : FVec Ideal S4096x1 .f32) (ix2 r 0)) := by
  exact row_results _ _ _ r _ _ (emb_real _ _ _ _ _ _) (fun j => cnd_real _ _ _ j) (fun h => emb_apply _ _ _ _ _ r h) (fun j h => cnd_apply _ _ _ j h)

end Cert.Proof.Ref
-- ==== Proof.Equal.lean ====
/-
  The kernel and the reference, launched with the same arguments, end with the same results, over extended reals: both are,
  row by row, the selected place and the logarithm of the share there.
-/
module

public import proofs.«01_k».proof.Proof.Region1Arr
public import proofs.«01_k».proof.Proof.KernelRun
public import proofs.«01_k».proof.Proof.RefValue

@[expose] public section

set_option maxRecDepth 16384

noncomputable section

namespace Cert.Proof.Equal

open Idealize Idealize.ShloMosaic Idealize.ShloMosaic.TcCoe Idealize.SL.Sem

/-- An index of a vector is its one coordinate's. -/
theorem idx1_eta {n : ℕ} (x : (⟨1, ![n]⟩ : Shape).Idx) : x = ix1 (x 0) := by
  funext a
  rw [show a = 0 from Subsingleton.elim _ _]
  rfl

variable (m : (ℓ : Loc Cert.KernelIdeal.nD Cert.KernelIdeal.τ Cert.KernelIdeal.sig) → Buf (Elt Ideal) ℓ) (g : Dev Cert.KernelIdeal.nD → PrngReg)
  (V : Valuation Cert.ReferenceIdeal.τ Cert.ReferenceIdeal.sig (Elt Ideal)) (c : Dev Cert.KernelIdeal.nD)

/-- Both results of the reference are the kernel's, where the arguments agree. -/
theorem results_eq
    (h0 : V (Proc.devRef .tc Cert.ReferenceIdeal.main_arg0) = Kern.at0 m c Cert.KernelIdeal.main_arg0)
    (h1 : V (Proc.devRef .tc Cert.ReferenceIdeal.main_arg1) = Kern.at0 m c Cert.KernelIdeal.main_arg1)
    (h2 : V (Proc.devRef .tc Cert.ReferenceIdeal.main_arg2) = Kern.at0 m c Cert.KernelIdeal.main_arg2)
    (h3 : V (Proc.devRef .tc Cert.ReferenceIdeal.main_arg3) = Kern.at0 m c Cert.KernelIdeal.main_arg3)
    (h4 : V (Proc.devRef .tc Cert.ReferenceIdeal.main_arg4) = Kern.at0 m c Cert.KernelIdeal.main_arg4)
    (h5 : V (Proc.devRef .tc Cert.ReferenceIdeal.main_arg5) = Kern.at0 m c Cert.KernelIdeal.main_arg5)
    (h6 : V (Proc.devRef .tc Cert.ReferenceIdeal.main_arg6) = Kern.at0 m c Cert.KernelIdeal.main_arg6)
    (h7 : V (Proc.devRef .tc Cert.ReferenceIdeal.main_arg7) = Kern.at0 m c Cert.KernelIdeal.main_arg7)
    (h8 : V (Proc.devRef .tc Cert.ReferenceIdeal.main_arg8) = Kern.at0 m c Cert.KernelIdeal.main_arg8) :
    (Ref.outSel V : IVec Cert.KernelIdeal.S4096 32) = Cert.KernelIdeal.Gen.W11 m g c (Proc.devRef .tc Cert.KernelIdeal.main_v28)
    ∧ (Ref.outLog V : FVec Ideal Cert.KernelIdeal.S4096x1 .f32) = Cert.KernelIdeal.Gen.W11 m g c (Proc.devRef .tc Cert.KernelIdeal.main_v27_1) := by
  have key := Ref.results V
  rw [h0, h1, h2, h3, h4, h5, h6, h7, h8] at key
  constructor
  · funext i
    have e : i = ix1 (i 0 : Fin 4096) := idx1_eta (n := 4096) i
    rw [e]
    exact (key _).1.trans (Kern.end_v28 m g c _).symm
  · funext i
    have e : i = ix2 (i 0 : Fin 4096) (0 : Fin 1) :=
      (Kern.idx2_eta (n := 4096) (m := 1) i).trans (congrArg (ix2 (i 0 : Fin 4096)) (Subsingleton.elim (α := Fin 1) _ _))
    rw [e]
    exact (key _).2.trans (Kern.end_v27_1 m g c _).symm

end Cert.Proof.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged and its counters at zero. -/
theorem ref_frame : Cert.quiescent_ReferenceIdeal (hReferenceIdeal := Cert.ReferenceIdeal.Gen.facts) := fun m' g _ =>
  (θ_run _ _ _).mono (fun r hr => ⟨fun c => ⟨(hr c Cert.ReferenceIdeal.main_arg0).trans (Ref.arg_keep m' c _ (by decide)),
      (hr c Cert.ReferenceIdeal.main_arg1).trans (Ref.arg_keep m' c _ (by decide)),
      (hr c Cert.ReferenceIdeal.main_arg2).trans (Ref.arg_keep m' c _ (by decide)),
      (hr c Cert.ReferenceIdeal.main_arg3).trans (Ref.arg_keep m' c _ (by decide)),
      (hr c Cert.ReferenceIdeal.main_arg4).trans (Ref.arg_keep m' c _ (by decide)),
      (hr c Cert.ReferenceIdeal.main_arg5).trans (Ref.arg_keep m' c _ (by decide)),
      (hr c Cert.ReferenceIdeal.main_arg6).trans (Ref.arg_keep m' c _ (by decide)),
      (hr c Cert.ReferenceIdeal.main_arg7).trans (Ref.arg_keep m' c _ (by decide)),
      (hr c Cert.ReferenceIdeal.main_arg8).trans (Ref.arg_keep m' c _ (by decide))⟩,
      Ref.no_sem _⟩) (Ref.run_main m' g)

/-- From the same arguments the kernel and the reference end with the same results. -/
theorem equal : Cert.algebraic_KernelIdeal_ReferenceIdeal (hKernelIdeal := Cert.KernelIdeal.Gen.facts) (hReferenceIdeal := Cert.ReferenceIdeal.Gen.facts) := by
  intro m g m' g' _ hargs
  have both := fun c => Equal.results_eq m g (StableHlo.launchContents m' c) c (hargs c).1 (hargs c).2.1 (hargs c).2.2.1 (hargs c).2.2.2.1
    (hargs c).2.2.2.2.1 (hargs c).2.2.2.2.2.1 (hargs c).2.2.2.2.2.2.1 (hargs c).2.2.2.2.2.2.2.1 (hargs c).2.2.2.2.2.2.2.2
  refine ⟨fun c => Cert.KernelIdeal.Gen.W11 m g c (Proc.devRef .tc Cert.KernelIdeal.main_v28),
    fun c => Cert.KernelIdeal.Gen.W11 m g c (Proc.devRef .tc Cert.KernelIdeal.main_v27_1), ?_, ?_⟩
  · exact (θ_run _ _ _).mono (fun r hr c => ⟨hr c _ (Cert.KernelIdeal.Gen.mem_uc Cert.KernelIdeal.main_v28 (by decide)),
      hr c _ (Cert.KernelIdeal.Gen.mem_uc Cert.KernelIdeal.main_v27_1 (by decide)),
      (hr c _ (Cert.KernelIdeal.Gen.mem_uc Cert.KernelIdeal.main_arg0 (by decide))).trans (Cert.KernelIdeal.Gen.W11_main_arg0 m g c),
      (hr c _ (Cert.KernelIdeal.Gen.mem_uc Cert.KernelIdeal.main_arg1 (by decide))).trans (Cert.KernelIdeal.Gen.W11_main_arg1 m g c),
      (hr c _ (Cert.KernelIdeal.Gen.mem_uc Cert.KernelIdeal.main_arg2 (by decide))).trans (Cert.KernelIdeal.Gen.W11_main_arg2 m g c),
      (hr c _ (Cert.KernelIdeal.Gen.mem_uc Cert.KernelIdeal.main_arg3 (by decide))).trans (Cert.KernelIdeal.Gen.W11_main_arg3 m g c),
      (hr c _ (Cert.KernelIdeal.Gen.mem_uc Cert.KernelIdeal.main_arg4 (by decide))).trans (Cert.KernelIdeal.Gen.W11_main_arg4 m g c),
      (hr c _ (Cert.KernelIdeal.Gen.mem_uc Cert.KernelIdeal.main_arg5 (by decide))).trans (Cert.KernelIdeal.Gen.W11_main_arg5 m g c),
      (hr c _ (Cert.KernelIdeal.Gen.mem_uc Cert.KernelIdeal.main_arg6 (by decide))).trans (Cert.KernelIdeal.Gen.W11_main_arg6 m g c),
      (hr c _ (Cert.KernelIdeal.Gen.mem_uc Cert.KernelIdeal.main_arg7 (by decide))).trans (Cert.KernelIdeal.Gen.W11_main_arg7 m g c),
      (hr c _ (Cert.KernelIdeal.Gen.mem_uc Cert.KernelIdeal.main_arg8 (by decide))).trans (Cert.KernelIdeal.Gen.W11_main_arg8 m g c)⟩) (Kern.run_end m g)
  · exact (θ_run _ _ _).mono (fun r hr c => ⟨(hr c Cert.ReferenceIdeal.main_v44).trans ((Ref.end_main_v44 _).trans (both c).1),
      (hr c Cert.ReferenceIdeal.main_v61).trans ((Ref.end_main_v61 _).trans (both c).2),
      (hr c Cert.ReferenceIdeal.main_arg0).trans (Ref.arg_keep m' c _ (by decide)),
      (hr c Cert.ReferenceIdeal.main_arg1).trans (Ref.arg_keep m' c _ (by decide)),
      (hr c Cert.ReferenceIdeal.main_arg2).trans (Ref.arg_keep m' c _ (by decide)),
      (hr c Cert.ReferenceIdeal.main_arg3).trans (Ref.arg_keep m' c _ (by decide)),
      (hr c Cert.ReferenceIdeal.main_arg4).trans (Ref.arg_keep m' c _ (by decide)),
      (hr c Cert.ReferenceIdeal.main_arg5).trans (Ref.arg_keep m' c _ (by decide)),
      (hr c Cert.ReferenceIdeal.main_arg6).trans (Ref.arg_keep m' c _ (by decide)),
      (hr c Cert.ReferenceIdeal.main_arg7).trans (Ref.arg_keep m' c _ (by decide)),
      (hr c Cert.ReferenceIdeal.main_arg8).trans (Ref.arg_keep m' c _ (by decide))⟩) (Ref.run_main m' g')

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, ref_frame, trivial, equal⟩

end Cert.Proof

end
